-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S4096x64 : Shape := ⟨2, ![4096, 64]⟩
abbrev S64x64 : Shape := ⟨2, ![64, 64]⟩
abbrev S64 : Shape := ⟨1, ![64]⟩
abbrev S8x8192x64 : Shape := ⟨3, ![8, 8192, 64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn_part1 {F : FTy → Type} [FloatOps F] (main_v13 : IVec S_ 1) (main_v16 : IVec S8x8192x64 1) : IVec S_ 1 :=
  let main_c_5 : IVec S_ 1 := constantI S_ 1 1#1
  let main_v17 : IVec S_ 1 := (fun x v => Host.reduce IntOp.andi x v reducesTo_S8x8192x64_S_d0_1_2 h_S_) main_v16 main_c_5
  let main_v18 : IVec S_ 1 := andi main_v13 main_v17
  main_v18

def fn {F : FTy → Type} [FloatOps F] (main_arg0 : FVec F S4096x64 .f32) (main_arg1 : FVec F S64x64 .f32) (main_arg2 : FVec F S64 .f32) (main_arg3 : FVec F S8x8192x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x8192x64 .f32 := Host.absf main_arg3
  let main_cst_4 : FVec F S_ .f32 := constant S_ .f32 0x7F800000#32
  let main_v15 : FVec F S8x8192x64 .f32 := broadcastInDim S8x8192x64 ![] bcast_S_S8x8192x64 main_cst_4
  let main_v16 : IVec S8x8192x64 1 := cmpf .olt main_v14 main_v15
  fn_part1 (F := F) main_v13 main_v16
-- ==== Kernel.lean ====
abbrev S4096x64 : Shape := ⟨2, ![4096, 64]⟩
abbrev S64x64 : Shape := ⟨2, ![64, 64]⟩
abbrev S64 : Shape := ⟨1, ![64]⟩
abbrev S8x8192x64 : Shape := ⟨3, ![8, 8192, 64]⟩
abbrev S1x64 : Shape := ⟨2, ![1, 64]⟩
abbrev S4096x65536 : Shape := ⟨2, ![4096, 65536]⟩
abbrev S128x64 : Shape := ⟨2, ![128, 64]⟩
abbrev S1x8192x64 : Shape := ⟨3, ![1, 8192, 64]⟩
abbrev S128x8192 : Shape := ⟨2, ![128, 8192]⟩
abbrev S64x8192 : Shape := ⟨2, ![64, 8192]⟩
abbrev S1x8192 : Shape := ⟨2, ![1, 8192]⟩
abbrev S8192x64 : Shape := ⟨2, ![8192, 64]⟩
abbrev S8192 : Shape := ⟨1, ![8192]⟩
abbrev S128 : Shape := ⟨1, ![128]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x64, .f32⟩
  | .hbm, ⟨1, _⟩ => ⟨S64x64, .f32⟩
  | .hbm, ⟨2, _⟩ => ⟨S64, .f32⟩
  | .hbm, ⟨3, _⟩ => ⟨S8x8192x64, .f32⟩
  | .hbm, ⟨4, _⟩ => ⟨S1x64, .f32⟩
  | .hbm, ⟨5, _⟩ => ⟨S4096x65536, .f32⟩
  | .hbm, ⟨6, _⟩ => ⟨S4096x64, .f32⟩
  | .local _ .vmem, ⟨0, _⟩ => ⟨S128x64, .f32⟩
  | .local _ .vmem, ⟨1, _⟩ => ⟨S128x64, .f32⟩
  | .local _ .vmem, ⟨2, _⟩ => ⟨S64x64, .f32⟩
  | .local _ .vmem, ⟨3, _⟩ => ⟨S1x64, .f32⟩
  | .local _ .vmem, ⟨4, _⟩ => ⟨S1x8192x64, .f32⟩
  | .local _ .vmem, ⟨5, _⟩ => ⟨S1x8192x64, .f32⟩
  | .local _ .vmem, ⟨6, _⟩ => ⟨S128x8192, .f32⟩
  | .local _ .vmem, ⟨7, _⟩ => ⟨S128x8192, .f32⟩
  | .local _ .vmem, ⟨8, _⟩ => ⟨S128x64, .f32⟩
  | .local _ .vmem, ⟨9, _⟩ => ⟨S128x64, .f32⟩
  | .local _ .vmem, ⟨10, _⟩ => ⟨S4096x64, .f32⟩
  | .local _ .vmem, ⟨11, _⟩ => ⟨S4096x64, .f32⟩
  | .local _ .vmem, ⟨12, _⟩ => ⟨S64x8192, .f32⟩
  | .local _ .vmem, ⟨13, _⟩ => ⟨S1x8192, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg1 : BitVec 32 := BitVec.ofNat 32 (i 1).val
  let c128_i32 : BitVec 32 := 128#32
  let v0 : BitVec 32 := Scalar.muli arg1 c128_i32
  let v58 : Index := Scalar.indexCast v0
  let c0_28 : Index := 0#32
  ![v58.toNat, 0]
def k0_off2 (i : grid0.Coords) : Fin 2 → Nat :=
  let arg1 : BitVec 32 := BitVec.ofNat 32 (i 1).val
  let c128_i32 : BitVec 32 := 128#32
  let v0 : BitVec 32 := Scalar.muli arg1 c128_i32
  let v7 : Index := Scalar.indexCast v0
  let c0 : Index := 0#32
  ![v7.toNat, 0]
def k0_cond3 (i : grid0.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_20 : BitVec 32 := 0#32
  let v50 : BitVec 1 := Scalar.cmpi .ne v49 c0_i32_20
  v50

def k0_off3 (i : grid0.Coords) : Fin 2 → Nat :=
  let arg1 : BitVec 32 := BitVec.ofNat 32 (i 1).val
  let c128_i32 : BitVec 32 := 128#32
  let v0 : BitVec 32 := Scalar.muli arg1 c128_i32
  let v51 : Index := Scalar.indexCast v0
  let c0_21 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== ReferenceIdeal.lean ====
abbrev S4096x64 : Shape := ⟨2, ![4096, 64]⟩
abbrev S64x64 : Shape := ⟨2, ![64, 64]⟩
abbrev S64 : Shape := ⟨1, ![64]⟩
abbrev S8x8192x64 : Shape := ⟨3, ![8, 8192, 64]⟩
abbrev S1x64 : Shape := ⟨2, ![1, 64]⟩
abbrev S_ : Shape := ⟨0, ![]⟩
abbrev S1x8192x64 : Shape := ⟨3, ![1, 8192, 64]⟩
abbrev S8192x64 : Shape := ⟨2, ![8192, 64]⟩
abbrev S4096 : Shape := ⟨1, ![4096]⟩
abbrev S4096x1 : Shape := ⟨2, ![4096, 1]⟩
abbrev S8192 : Shape := ⟨1, ![8192]⟩
abbrev S1x8192 : Shape := ⟨2, ![1, 8192]⟩
abbrev S4096x8192 : Shape := ⟨2, ![4096, 8192]⟩
abbrev S64x8192 : Shape := ⟨2, ![64, 8192]⟩
abbrev S1 : Shape := ⟨1, ![1]⟩
abbrev S1x1 : Shape := ⟨2, ![1, 1]⟩
abbrev S4096x1x8192 : Shape := ⟨3, ![4096, 1, 8192]⟩
abbrev S4096x8x8192 : Shape := ⟨3, ![4096, 8, 8192]⟩
abbrev S4096x65536 : Shape := ⟨2, ![4096, 65536]⟩

abbrev nBuf : Space → Nat
  | .hbm => 452
  | .vmem => 0
  | .smem => 0
  | _ => 0

abbrev hbmTy0_0 (i : Nat) : BufTy := match i % 128 with
  | 0 => ⟨S4096x64, .f32⟩
  | 1 => ⟨S64x64, .f32⟩
  | 2 => ⟨S64, .f32⟩
  | 3 => ⟨S8x8192x64, .f32⟩
  | 4 => ⟨S4096x64, .f32⟩
  | 5 => ⟨S1x64, .f32⟩
  | 6 => ⟨S4096x64, .f32⟩
  | 7 => ⟨S4096x64, .f32⟩
  | 8 => ⟨S_, .f32⟩
  | 9 => ⟨S4096x64, .f32⟩
  | 10 => ⟨S1x8192x64, .f32⟩
  | 11 => ⟨S8192x64, .f32⟩
  | 12 => ⟨S4096x64, .f32⟩
  | 13 => ⟨S_, .f32⟩
  | 14 => ⟨S4096, .f32⟩
  | 15 => ⟨S4096x1, .f32⟩
  | 16 => ⟨S8192x64, .f32⟩
  | 17 => ⟨S_, .f32⟩
  | 18 => ⟨S8192, .f32⟩
  | 19 => ⟨S1x8192, .f32⟩
  | 20 => ⟨S4096x8192, .f32⟩
  | 21 => ⟨S4096x8192, .f32⟩
  | 22 => ⟨S4096x8192, .f32⟩
  | 23 => ⟨S64x8192, .f32⟩
  | 24 => ⟨S4096x8192, .f32⟩
  | 25 => ⟨S_, .f32⟩
  | 26 => ⟨S4096x8192, .f32⟩
  | 27 => ⟨S4096x8192, .f32⟩
  | 28 => ⟨S4096x8192, .f32⟩
  | 29 => ⟨S_, .f32⟩
  | 30 => ⟨S4096x8192, .f32⟩
  | 31 => ⟨S4096x8192, .f32⟩
  | 32 => ⟨S4096x8192, .f32⟩
  | 33 => ⟨S4096x8192, .f32⟩
  | 34 => ⟨S4096x8192, .i32⟩
  | 35 => ⟨S_, .f32⟩
  | 36 => ⟨S_, .i32⟩
  | 37 => ⟨S4096, .f32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x64, .f32⟩
  | 58 => ⟨S4096x64, .i1⟩
  | 59 => ⟨S_, .f32⟩
  | 60 => ⟨S4096x64, .f32⟩
  | 61 => ⟨S4096x64, .f32⟩
  | 62 => ⟨S4096x64, .f32⟩
  | 63 => ⟨S4096x64, .f32⟩
  | 64 => ⟨S1x8192x64, .f32⟩
  | 65 => ⟨S8192x64, .f32⟩
  | 66 => ⟨S4096x64, .f32⟩
  | 67 => ⟨S_, .f32⟩
  | 68 => ⟨S4096, .f32⟩
  | 69 => ⟨S4096x1, .f32⟩
  | 70 => ⟨S8192x64, .f32⟩
  | 71 => ⟨S_, .f32⟩
  | 72 => ⟨S8192, .f32⟩
  | 73 => ⟨S1x8192, .f32⟩
  | 74 => ⟨S4096x8192, .f32⟩
  | 75 => ⟨S4096x8192, .f32⟩
  | 76 => ⟨S4096x8192, .f32⟩
  | 77 => ⟨S64x8192, .f32⟩
  | 78 => ⟨S4096x8192, .f32⟩
  | 79 => ⟨S_, .f32⟩
  | 80 => ⟨S4096x8192, .f32⟩
  | 81 => ⟨S4096x8192, .f32⟩
  | 82 => ⟨S4096x8192, .f32⟩
  | 83 => ⟨S_, .f32⟩
  | 84 => ⟨S4096x8192, .f32⟩
  | 85 => ⟨S4096x8192, .f32⟩
  | 86 => ⟨S4096x8192, .f32⟩
  | 87 => ⟨S4096x8192, .f32⟩
  | 88 => ⟨S4096x8192, .i32⟩
  | 89 => ⟨S_, .f32⟩
  | 90 => ⟨S_, .i32⟩
  | 91 => ⟨S4096, .f32⟩
  | 92 => ⟨S4096, .i32⟩
  | 93 => ⟨S_, .i32⟩
  | 94 => ⟨S4096, .i32⟩
  | 95 => ⟨S4096, .i1⟩
  | 96 => ⟨S_, .i32⟩
  | 97 => ⟨S4096, .i32⟩
  | 98 => ⟨S4096, .i32⟩
  | 99 => ⟨S4096, .i32⟩
  | 100 => ⟨S4096x1, .i32⟩
  | 101 => ⟨S1, .i32⟩
  | 102 => ⟨S_, .i32⟩
  | 103 => ⟨S4096x1, .i32⟩
  | 104 => ⟨S4096x1, .i1⟩
  | 105 => ⟨S1x1, .i32⟩
  | 106 => ⟨S4096x1, .i32⟩
  | 107 => ⟨S4096x1, .i1⟩
  | 108 => ⟨S4096x1, .i1⟩
  | 109 => ⟨S_, .i1⟩
  | 110 => ⟨S4096, .i1⟩
  | 111 => ⟨S4096x64, .f32⟩
  | 112 => ⟨S4096x64, .i1⟩
  | 113 => ⟨S_, .f32⟩
  | 114 => ⟨S4096x64, .f32⟩
  | 115 => ⟨S4096x64, .f32⟩
  | 116 => ⟨S4096x64, .f32⟩
  | 117 => ⟨S4096x64, .f32⟩
  | 118 => ⟨S1x8192x64, .f32⟩
  | 119 => ⟨S8192x64, .f32⟩
  | 120 => ⟨S4096x64, .f32⟩
  | 121 => ⟨S_, .f32⟩
  | 122 => ⟨S4096, .f32⟩
  | 123 => ⟨S4096x1, .f32⟩
  | 124 => ⟨S8192x64, .f32⟩
  | 125 => ⟨S_, .f32⟩
  | 126 => ⟨S8192, .f32⟩
  | 127 => ⟨S1x8192, .f32⟩
  | _ => ⟨S4096x64, .f32⟩

abbrev hbmTy0_1 (i : Nat) : BufTy := match i % 128 with
  | 0 => ⟨S4096x8192, .f32⟩
  | 1 => ⟨S4096x8192, .f32⟩
  | 2 => ⟨S4096x8192, .f32⟩
  | 3 => ⟨S64x8192, .f32⟩
  | 4 => ⟨S4096x8192, .f32⟩
  | 5 => ⟨S_, .f32⟩
  | 6 => ⟨S4096x8192, .f32⟩
  | 7 => ⟨S4096x8192, .f32⟩
  | 8 => ⟨S4096x8192, .f32⟩
  | 9 => ⟨S_, .f32⟩
  | 10 => ⟨S4096x8192, .f32⟩
  | 11 => ⟨S4096x8192, .f32⟩
  | 12 => ⟨S4096x8192, .f32⟩
  | 13 => ⟨S4096x8192, .f32⟩
  | 14 => ⟨S4096x8192, .i32⟩
  | 15 => ⟨S_, .f32⟩
  | 16 => ⟨S_, .i32⟩
  | 17 => ⟨S4096, .f32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S1, .i32⟩
  | 28 => ⟨S_, .i32⟩
  | 29 => ⟨S4096x1, .i32⟩
  | 30 => ⟨S4096x1, .i1⟩
  | 31 => ⟨S1x1, .i32⟩
  | 32 => ⟨S4096x1, .i32⟩
  | 33 => ⟨S4096x1, .i1⟩
  | 34 => ⟨S4096x1, .i1⟩
  | 35 => ⟨S_, .i1⟩
  | 36 => ⟨S4096, .i1⟩
  | 37 => ⟨S4096x64, .f32⟩
  | 38 => ⟨S4096x64, .i1⟩
  | 39 => ⟨S_, .f32⟩
  | 40 => ⟨S4096x64, .f32⟩
  | 41 => ⟨S4096x64, .f32⟩
  | 42 => ⟨S4096x64, .f32⟩
  | 43 => ⟨S4096x64, .f32⟩
  | 44 => ⟨S1x8192x64, .f32⟩
  | 45 => ⟨S8192x64, .f32⟩
  | 46 => ⟨S4096x64, .f32⟩
  | 47 => ⟨S_, .f32⟩
  | 48 => ⟨S4096, .f32⟩
  | 49 => ⟨S4096x1, .f32⟩
  | 50 => ⟨S8192x64, .f32⟩
  | 51 => ⟨S_, .f32⟩
  | 52 => ⟨S8192, .f32⟩
  | 53 => ⟨S1x8192, .f32⟩
  | 54 => ⟨S4096x8192, .f32⟩
  | 55 => ⟨S4096x8192, .f32⟩
  | 56 => ⟨S4096x8192, .f32⟩
  | 57 => ⟨S64x8192, .f32⟩
  | 58 => ⟨S4096x8192, .f32⟩
  | 59 => ⟨S_, .f32⟩
  | 60 => ⟨S4096x8192, .f32⟩
  | 61 => ⟨S4096x8192, .f32⟩
  | 62 => ⟨S4096x8192, .f32⟩
  | 63 => ⟨S_, .f32⟩
  | 64 => ⟨S4096x8192, .f32⟩
  | 65 => ⟨S4096x8192, .f32⟩
  | 66 => ⟨S4096x8192, .f32⟩
  | 67 => ⟨S4096x8192, .f32⟩
  | 68 => ⟨S4096x8192, .i32⟩
  | 69 => ⟨S_, .f32⟩
  | 70 => ⟨S_, .i32⟩
  | 71 => ⟨S4096, .f32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S1, .i32⟩
  | 82 => ⟨S_, .i32⟩
  | 83 => ⟨S4096x1, .i32⟩
  | 84 => ⟨S4096x1, .i1⟩
  | 85 => ⟨S1x1, .i32⟩
  | 86 => ⟨S4096x1, .i32⟩
  | 87 => ⟨S4096x1, .i1⟩
  | 88 => ⟨S4096x1, .i1⟩
  | 89 => ⟨S_, .i1⟩
  | 90 => ⟨S4096, .i1⟩
  | 91 => ⟨S4096x64, .f32⟩
  | 92 => ⟨S4096x64, .i1⟩
  | 93 => ⟨S_, .f32⟩
  | 94 => ⟨S4096x64, .f32⟩
  | 95 => ⟨S4096x64, .f32⟩
  | 96 => ⟨S4096x64, .f32⟩
  | 97 => ⟨S4096x64, .f32⟩
  | 98 => ⟨S1x8192x64, .f32⟩
  | 99 => ⟨S8192x64, .f32⟩
  | 100 => ⟨S4096x64, .f32⟩
  | 101 => ⟨S_, .f32⟩
  | 102 => ⟨S4096, .f32⟩
  | 103 => ⟨S4096x1, .f32⟩
  | 104 => ⟨S8192x64, .f32⟩
  | 105 => ⟨S_, .f32⟩
  | 106 => ⟨S8192, .f32⟩
  | 107 => ⟨S1x8192, .f32⟩
  | 108 => ⟨S4096x8192, .f32⟩
  | 109 => ⟨S4096x8192, .f32⟩
  | 110 => ⟨S4096x8192, .f32⟩
  | 111 => ⟨S64x8192, .f32⟩
  | 112 => ⟨S4096x8192, .f32⟩
  | 113 => ⟨S_, .f32⟩
  | 114 => ⟨S4096x8192, .f32⟩
  | 115 => ⟨S4096x8192, .f32⟩
  | 116 => ⟨S4096x8192, .f32⟩
  | 117 => ⟨S_, .f32⟩
  | 118 => ⟨S4096x8192, .f32⟩
  | 119 => ⟨S4096x8192, .f32⟩
  | 120 => ⟨S4096x8192, .f32⟩
  | 121 => ⟨S4096x8192, .f32⟩
  | 122 => ⟨S4096x8192, .i32⟩
  | 123 => ⟨S_, .f32⟩
  | 124 => ⟨S_, .i32⟩
  | 125 => ⟨S4096, .f32⟩
  | 126 => ⟨S4096, .i32⟩
  | 127 => ⟨S_, .i32⟩
  | _ => ⟨S4096x64, .f32⟩

abbrev hbmTy0_2 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S1, .i32⟩
  | 8 => ⟨S_, .i32⟩
  | 9 => ⟨S4096x1, .i32⟩
  | 10 => ⟨S4096x1, .i1⟩
  | 11 => ⟨S1x1, .i32⟩
  | 12 => ⟨S4096x1, .i32⟩
  | 13 => ⟨S4096x1, .i1⟩
  | 14 => ⟨S4096x1, .i1⟩
  | 15 => ⟨S_, .i1⟩
  | 16 => ⟨S4096, .i1⟩
  | 17 => ⟨S4096x64, .f32⟩
  | 18 => ⟨S4096x64, .i1⟩
  | 19 => ⟨S_, .f32⟩
  | 20 => ⟨S4096x64, .f32⟩
  | 21 => ⟨S4096x64, .f32⟩
  | 22 => ⟨S4096x64, .f32⟩
  | 23 => ⟨S4096x64, .f32⟩
  | 24 => ⟨S1x8192x64, .f32⟩
  | 25 => ⟨S8192x64, .f32⟩
  | 26 => ⟨S4096x64, .f32⟩
  | 27 => ⟨S_, .f32⟩
  | 28 => ⟨S4096, .f32⟩
  | 29 => ⟨S4096x1, .f32⟩
  | 30 => ⟨S8192x64, .f32⟩
  | 31 => ⟨S_, .f32⟩
  | 32 => ⟨S8192, .f32⟩
  | 33 => ⟨S1x8192, .f32⟩
  | 34 => ⟨S4096x8192, .f32⟩
  | 35 => ⟨S4096x8192, .f32⟩
  | 36 => ⟨S4096x8192, .f32⟩
  | 37 => ⟨S64x8192, .f32⟩
  | 38 => ⟨S4096x8192, .f32⟩
  | 39 => ⟨S_, .f32⟩
  | 40 => ⟨S4096x8192, .f32⟩
  | 41 => ⟨S4096x8192, .f32⟩
  | 42 => ⟨S4096x8192, .f32⟩
  | 43 => ⟨S_, .f32⟩
  | 44 => ⟨S4096x8192, .f32⟩
  | 45 => ⟨S4096x8192, .f32⟩
  | 46 => ⟨S4096x8192, .f32⟩
  | 47 => ⟨S4096x8192, .f32⟩
  | 48 => ⟨S4096x8192, .i32⟩
  | 49 => ⟨S_, .f32⟩
  | 50 => ⟨S_, .i32⟩
  | 51 => ⟨S4096, .f32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1, .i32⟩
  | 62 => ⟨S_, .i32⟩
  | 63 => ⟨S4096x1, .i32⟩
  | 64 => ⟨S4096x1, .i1⟩
  | 65 => ⟨S1x1, .i32⟩
  | 66 => ⟨S4096x1, .i32⟩
  | 67 => ⟨S4096x1, .i1⟩
  | 68 => ⟨S4096x1, .i1⟩
  | 69 => ⟨S_, .i1⟩
  | 70 => ⟨S4096, .i1⟩
  | 71 => ⟨S4096x64, .f32⟩
  | 72 => ⟨S4096x64, .i1⟩
  | 73 => ⟨S_, .f32⟩
  | 74 => ⟨S4096x64, .f32⟩
  | 75 => ⟨S4096x64, .f32⟩
  | 76 => ⟨S4096x64, .f32⟩
  | 77 => ⟨S4096x64, .f32⟩
  | 78 => ⟨S1x8192x64, .f32⟩
  | 79 => ⟨S8192x64, .f32⟩
  | 80 => ⟨S4096x64, .f32⟩
  | 81 => ⟨S_, .f32⟩
  | 82 => ⟨S4096, .f32⟩
  | 83 => ⟨S4096x1, .f32⟩
  | 84 => ⟨S8192x64, .f32⟩
  | 85 => ⟨S_, .f32⟩
  | 86 => ⟨S8192, .f32⟩
  | 87 => ⟨S1x8192, .f32⟩
  | 88 => ⟨S4096x8192, .f32⟩
  | 89 => ⟨S4096x8192, .f32⟩
  | 90 => ⟨S4096x8192, .f32⟩
  | 91 => ⟨S64x8192, .f32⟩
  | 92 => ⟨S4096x8192, .f32⟩
  | 93 => ⟨S_, .f32⟩
  | 94 => ⟨S4096x8192, .f32⟩
  | 95 => ⟨S4096x8192, .f32⟩
  | 96 => ⟨S4096x8192, .f32⟩
  | 97 => ⟨S_, .f32⟩
  | 98 => ⟨S4096x8192, .f32⟩
  | 99 => ⟨S4096x8192, .f32⟩
  | 100 => ⟨S4096x8192, .f32⟩
  | 101 => ⟨S4096x8192, .f32⟩
  | 102 => ⟨S4096x8192, .i32⟩
  | 103 => ⟨S_, .f32⟩
  | 104 => ⟨S_, .i32⟩
  | 105 => ⟨S4096, .f32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S1, .i32⟩
  | 116 => ⟨S_, .i32⟩
  | 117 => ⟨S4096x1, .i32⟩
  | 118 => ⟨S4096x1, .i1⟩
  | 119 => ⟨S1x1, .i32⟩
  | 120 => ⟨S4096x1, .i32⟩
  | 121 => ⟨S4096x1, .i1⟩
  | 122 => ⟨S4096x1, .i1⟩
  | 123 => ⟨S_, .i1⟩
  | 124 => ⟨S4096, .i1⟩
  | 125 => ⟨S4096x64, .f32⟩
  | 126 => ⟨S4096x64, .i1⟩
  | 127 => ⟨S_, .f32⟩
  | _ => ⟨S4096x64, .f32⟩

abbrev hbmTy0_3 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S1x8192x64, .f32⟩
  | 5 => ⟨S8192x64, .f32⟩
  | 6 => ⟨S4096x64, .f32⟩
  | 7 => ⟨S_, .f32⟩
  | 8 => ⟨S4096, .f32⟩
  | 9 => ⟨S4096x1, .f32⟩
  | 10 => ⟨S8192x64, .f32⟩
  | 11 => ⟨S_, .f32⟩
  | 12 => ⟨S8192, .f32⟩
  | 13 => ⟨S1x8192, .f32⟩
  | 14 => ⟨S4096x8192, .f32⟩
  | 15 => ⟨S4096x8192, .f32⟩
  | 16 => ⟨S4096x8192, .f32⟩
  | 17 => ⟨S64x8192, .f32⟩
  | 18 => ⟨S4096x8192, .f32⟩
  | 19 => ⟨S_, .f32⟩
  | 20 => ⟨S4096x8192, .f32⟩
  | 21 => ⟨S4096x8192, .f32⟩
  | 22 => ⟨S4096x8192, .f32⟩
  | 23 => ⟨S_, .f32⟩
  | 24 => ⟨S4096x8192, .f32⟩
  | 25 => ⟨S4096x8192, .f32⟩
  | 26 => ⟨S4096x8192, .f32⟩
  | 27 => ⟨S4096x8192, .f32⟩
  | 28 => ⟨S4096x8192, .i32⟩
  | 29 => ⟨S_, .f32⟩
  | 30 => ⟨S_, .i32⟩
  | 31 => ⟨S4096, .f32⟩
  | 32 => ⟨S4096, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S1, .i32⟩
  | 42 => ⟨S_, .i32⟩
  | 43 => ⟨S4096x1, .i32⟩
  | 44 => ⟨S4096x1, .i1⟩
  | 45 => ⟨S1x1, .i32⟩
  | 46 => ⟨S4096x1, .i32⟩
  | 47 => ⟨S4096x1, .i1⟩
  | 48 => ⟨S4096x1, .i1⟩
  | 49 => ⟨S_, .i1⟩
  | 50 => ⟨S4096, .i1⟩
  | 51 => ⟨S4096x64, .f32⟩
  | 52 => ⟨S4096x64, .i1⟩
  | 53 => ⟨S_, .f32⟩
  | 54 => ⟨S4096x64, .f32⟩
  | 55 => ⟨S4096x64, .f32⟩
  | 56 => ⟨S4096x64, .f32⟩
  | 57 => ⟨S4096x64, .f32⟩
  | 58 => ⟨S4096x1x8192, .f32⟩
  | 59 => ⟨S4096x1x8192, .f32⟩
  | 60 => ⟨S4096x1x8192, .f32⟩
  | 61 => ⟨S4096x1x8192, .f32⟩
  | 62 => ⟨S4096x1x8192, .f32⟩
  | 63 => ⟨S4096x1x8192, .f32⟩
  | 64 => ⟨S4096x1x8192, .f32⟩
  | 65 => ⟨S4096x1x8192, .f32⟩
  | 66 => ⟨S4096x8x8192, .f32⟩
  | 67 => ⟨S4096x65536, .f32⟩
  | _ => ⟨S4096x64, .f32⟩

abbrev hbmTy (i : Nat) : BufTy := match i / 128 with
  | 0 => hbmTy0_0 i
  | 1 => hbmTy0_1 i
  | 2 => hbmTy0_2 i
  | 3 => hbmTy0_3 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_cst : Ref sig .tc := ⟨.hbm, 35, rfl⟩
abbrev main_call0_c : Ref sig .tc := ⟨.hbm, 36, rfl⟩
abbrev main_call0_v1_0 : Ref sig .tc := ⟨.hbm, 37, rfl⟩
abbrev main_v25 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_6 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_7 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call2_v0 : Ref sig .tc := ⟨.hbm, 88, rfl⟩
abbrev main_call2_cst : Ref sig .tc := ⟨.hbm, 89, rfl⟩
abbrev main_call2_c : Ref sig .tc := ⟨.hbm, 90, rfl⟩
abbrev main_call2_v1_0 : Ref sig .tc := ⟨.hbm, 91, rfl⟩
abbrev main_v49 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_8 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_9 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_10 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_cst_11 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_call4_v0 : Ref sig .tc := ⟨.hbm, 142, rfl⟩
abbrev main_call4_cst : Ref sig .tc := ⟨.hbm, 143, rfl⟩
abbrev main_call4_c : Ref sig .tc := ⟨.hbm, 144, rfl⟩
abbrev main_call4_v1_0 : Ref sig .tc := ⟨.hbm, 145, rfl⟩
abbrev main_v73 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_cst_12 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_cst_13 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_cst_14 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_cst_15 : Ref sig .tc := ⟨.hbm, 191, rfl⟩
abbrev main_v93 : Ref sig .tc := ⟨.hbm, 192, rfl⟩
abbrev main_v94 : Ref sig .tc := ⟨.hbm, 193, rfl⟩
abbrev main_v95 : Ref sig .tc := ⟨.hbm, 194, rfl⟩
abbrev main_v96 : Ref sig .tc := ⟨.hbm, 195, rfl⟩
abbrev main_call6_v0 : Ref sig .tc := ⟨.hbm, 196, rfl⟩
abbrev main_call6_cst : Ref sig .tc := ⟨.hbm, 197, rfl⟩
abbrev main_call6_c : Ref sig .tc := ⟨.hbm, 198, rfl⟩
abbrev main_call6_v1_0 : Ref sig .tc := ⟨.hbm, 199, rfl⟩
abbrev main_v97 : Ref sig .tc := ⟨.hbm, 200, rfl⟩
abbrev main_call7_c : Ref sig .tc := ⟨.hbm, 201, rfl⟩
abbrev main_call7_v0 : Ref sig .tc := ⟨.hbm, 202, rfl⟩
abbrev main_call7_v1 : Ref sig .tc := ⟨.hbm, 203, rfl⟩
abbrev main_call7_c_0 : Ref sig .tc := ⟨.hbm, 204, rfl⟩
abbrev main_call7_v2 : Ref sig .tc := ⟨.hbm, 205, rfl⟩
abbrev main_call7_v3 : Ref sig .tc := ⟨.hbm, 206, rfl⟩
abbrev main_call7_v4 : Ref sig .tc := ⟨.hbm, 207, rfl⟩
abbrev main_call7_v5 : Ref sig .tc := ⟨.hbm, 208, rfl⟩
abbrev main_call7_c_1 : Ref sig .tc := ⟨.hbm, 209, rfl⟩
abbrev main_call7_c_2 : Ref sig .tc := ⟨.hbm, 210, rfl⟩
abbrev main_call7_v6 : Ref sig .tc := ⟨.hbm, 211, rfl⟩
abbrev main_call7_v7 : Ref sig .tc := ⟨.hbm, 212, rfl⟩
abbrev main_call7_v8 : Ref sig .tc := ⟨.hbm, 213, rfl⟩
abbrev main_call7_v9 : Ref sig .tc := ⟨.hbm, 214, rfl⟩
abbrev main_call7_v10 : Ref sig .tc := ⟨.hbm, 215, rfl⟩
abbrev main_call7_v11 : Ref sig .tc := ⟨.hbm, 216, rfl⟩
abbrev main_call7_c_3 : Ref sig .tc := ⟨.hbm, 217, rfl⟩
abbrev main_call7_v12 : Ref sig .tc := ⟨.hbm, 218, rfl⟩
abbrev main_call7_v13 : Ref sig .tc := ⟨.hbm, 219, rfl⟩
abbrev main_call7_v14 : Ref sig .tc := ⟨.hbm, 220, rfl⟩
abbrev main_call7_cst : Ref sig .tc := ⟨.hbm, 221, rfl⟩
abbrev main_call7_v15 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_cst_16 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_cst_17 : Ref sig .tc := ⟨.hbm, 233, rfl⟩
abbrev main_v107 : Ref sig .tc := ⟨.hbm, 234, rfl⟩
abbrev main_v108 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_cst_18 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_cst_19 : Ref sig .tc := ⟨.hbm, 245, rfl⟩
abbrev main_v117 : Ref sig .tc := ⟨.hbm, 246, rfl⟩
abbrev main_v118 : Ref sig .tc := ⟨.hbm, 247, rfl⟩
abbrev main_v119 : Ref sig .tc := ⟨.hbm, 248, rfl⟩
abbrev main_v120 : Ref sig .tc := ⟨.hbm, 249, rfl⟩
abbrev main_call8_v0 : Ref sig .tc := ⟨.hbm, 250, rfl⟩
abbrev main_call8_cst : Ref sig .tc := ⟨.hbm, 251, rfl⟩
abbrev main_call8_c : Ref sig .tc := ⟨.hbm, 252, rfl⟩
abbrev main_call8_v1_0 : Ref sig .tc := ⟨.hbm, 253, rfl⟩
abbrev main_v121 : Ref sig .tc := ⟨.hbm, 254, rfl⟩
abbrev main_call9_c : Ref sig .tc := ⟨.hbm, 255, rfl⟩
abbrev main_call9_v0 : Ref sig .tc := ⟨.hbm, 256, rfl⟩
abbrev main_call9_v1 : Ref sig .tc := ⟨.hbm, 257, rfl⟩
abbrev main_call9_c_0 : Ref sig .tc := ⟨.hbm, 258, rfl⟩
abbrev main_call9_v2 : Ref sig .tc := ⟨.hbm, 259, rfl⟩
abbrev main_call9_v3 : Ref sig .tc := ⟨.hbm, 260, rfl⟩
abbrev main_call9_v4 : Ref sig .tc := ⟨.hbm, 261, rfl⟩
abbrev main_call9_v5 : Ref sig .tc := ⟨.hbm, 262, rfl⟩
abbrev main_call9_c_1 : Ref sig .tc := ⟨.hbm, 263, rfl⟩
abbrev main_call9_c_2 : Ref sig .tc := ⟨.hbm, 264, rfl⟩
abbrev main_call9_v6 : Ref sig .tc := ⟨.hbm, 265, rfl⟩
abbrev main_call9_v7 : Ref sig .tc := ⟨.hbm, 266, rfl⟩
abbrev main_call9_v8 : Ref sig .tc := ⟨.hbm, 267, rfl⟩
abbrev main_call9_v9 : Ref sig .tc := ⟨.hbm, 268, rfl⟩
abbrev main_call9_v10 : Ref sig .tc := ⟨.hbm, 269, rfl⟩
abbrev main_call9_v11 : Ref sig .tc := ⟨.hbm, 270, rfl⟩
abbrev main_call9_c_3 : Ref sig .tc := ⟨.hbm, 271, rfl⟩
abbrev main_call9_v12 : Ref sig .tc := ⟨.hbm, 272, rfl⟩
abbrev main_call9_v13 : Ref sig .tc := ⟨.hbm, 273, rfl⟩
abbrev main_call9_v14 : Ref sig .tc := ⟨.hbm, 274, rfl⟩
abbrev main_call9_cst : Ref sig .tc := ⟨.hbm, 275, rfl⟩
abbrev main_call9_v15 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_v126 : Ref sig .tc := ⟨.hbm, 281, rfl⟩
abbrev main_v127 : Ref sig .tc := ⟨.hbm, 282, rfl⟩
abbrev main_cst_20 : Ref sig .tc := ⟨.hbm, 283, rfl⟩
abbrev main_v128 : Ref sig .tc := ⟨.hbm, 284, rfl⟩
abbrev main_v129 : Ref sig .tc := ⟨.hbm, 285, rfl⟩
abbrev main_v130 : Ref sig .tc := ⟨.hbm, 286, rfl⟩
abbrev main_cst_21 : Ref sig .tc := ⟨.hbm, 287, rfl⟩
abbrev main_v131 : Ref sig .tc := ⟨.hbm, 288, rfl⟩
abbrev main_v132 : Ref sig .tc := ⟨.hbm, 289, rfl⟩
abbrev main_v133 : Ref sig .tc := ⟨.hbm, 290, rfl⟩
abbrev main_v134 : Ref sig .tc := ⟨.hbm, 291, rfl⟩
abbrev main_v135 : Ref sig .tc := ⟨.hbm, 292, rfl⟩
abbrev main_v136 : Ref sig .tc := ⟨.hbm, 293, rfl⟩
abbrev main_v137 : Ref sig .tc := ⟨.hbm, 294, rfl⟩
abbrev main_cst_22 : Ref sig .tc := ⟨.hbm, 295, rfl⟩
abbrev main_v138 : Ref sig .tc := ⟨.hbm, 296, rfl⟩
abbrev main_v139 : Ref sig .tc := ⟨.hbm, 297, rfl⟩
abbrev main_v140 : Ref sig .tc := ⟨.hbm, 298, rfl⟩
abbrev main_cst_23 : Ref sig .tc := ⟨.hbm, 299, rfl⟩
abbrev main_v141 : Ref sig .tc := ⟨.hbm, 300, rfl⟩
abbrev main_v142 : Ref sig .tc := ⟨.hbm, 301, rfl⟩
abbrev main_v143 : Ref sig .tc := ⟨.hbm, 302, rfl⟩
abbrev main_v144 : Ref sig .tc := ⟨.hbm, 303, rfl⟩
abbrev main_call10_v0 : Ref sig .tc := ⟨.hbm, 304, rfl⟩
abbrev main_call10_cst : Ref sig .tc := ⟨.hbm, 305, rfl⟩
abbrev main_call10_c : Ref sig .tc := ⟨.hbm, 306, rfl⟩
abbrev main_call10_v1_0 : Ref sig .tc := ⟨.hbm, 307, rfl⟩
abbrev main_v145 : Ref sig .tc := ⟨.hbm, 308, rfl⟩
abbrev main_call11_c : Ref sig .tc := ⟨.hbm, 309, rfl⟩
abbrev main_call11_v0 : Ref sig .tc := ⟨.hbm, 310, rfl⟩
abbrev main_call11_v1 : Ref sig .tc := ⟨.hbm, 311, rfl⟩
abbrev main_call11_c_0 : Ref sig .tc := ⟨.hbm, 312, rfl⟩
abbrev main_call11_v2 : Ref sig .tc := ⟨.hbm, 313, rfl⟩
abbrev main_call11_v3 : Ref sig .tc := ⟨.hbm, 314, rfl⟩
abbrev main_call11_v4 : Ref sig .tc := ⟨.hbm, 315, rfl⟩
abbrev main_call11_v5 : Ref sig .tc := ⟨.hbm, 316, rfl⟩
abbrev main_call11_c_1 : Ref sig .tc := ⟨.hbm, 317, rfl⟩
abbrev main_call11_c_2 : Ref sig .tc := ⟨.hbm, 318, rfl⟩
abbrev main_call11_v6 : Ref sig .tc := ⟨.hbm, 319, rfl⟩
abbrev main_call11_v7 : Ref sig .tc := ⟨.hbm, 320, rfl⟩
abbrev main_call11_v8 : Ref sig .tc := ⟨.hbm, 321, rfl⟩
abbrev main_call11_v9 : Ref sig .tc := ⟨.hbm, 322, rfl⟩
abbrev main_call11_v10 : Ref sig .tc := ⟨.hbm, 323, rfl⟩
abbrev main_call11_v11 : Ref sig .tc := ⟨.hbm, 324, rfl⟩
abbrev main_call11_c_3 : Ref sig .tc := ⟨.hbm, 325, rfl⟩
abbrev main_call11_v12 : Ref sig .tc := ⟨.hbm, 326, rfl⟩
abbrev main_call11_v13 : Ref sig .tc := ⟨.hbm, 327, rfl⟩
abbrev main_call11_v14 : Ref sig .tc := ⟨.hbm, 328, rfl⟩
abbrev main_call11_cst : Ref sig .tc := ⟨.hbm, 329, rfl⟩
abbrev main_call11_v15 : Ref sig .tc := ⟨.hbm, 330, rfl⟩
abbrev main_v146 : Ref sig .tc := ⟨.hbm, 331, rfl⟩
abbrev main_v147 : Ref sig .tc := ⟨.hbm, 332, rfl⟩
abbrev main_v148 : Ref sig .tc := ⟨.hbm, 333, rfl⟩
abbrev main_v149 : Ref sig .tc := ⟨.hbm, 334, rfl⟩
abbrev main_v150 : Ref sig .tc := ⟨.hbm, 335, rfl⟩
abbrev main_v151 : Ref sig .tc := ⟨.hbm, 336, rfl⟩
abbrev main_cst_24 : Ref sig .tc := ⟨.hbm, 337, rfl⟩
abbrev main_v152 : Ref sig .tc := ⟨.hbm, 338, rfl⟩
abbrev main_v153 : Ref sig .tc := ⟨.hbm, 339, rfl⟩
abbrev main_v154 : Ref sig .tc := ⟨.hbm, 340, rfl⟩
abbrev main_cst_25 : Ref sig .tc := ⟨.hbm, 341, rfl⟩
abbrev main_v155 : Ref sig .tc := ⟨.hbm, 342, rfl⟩
abbrev main_v156 : Ref sig .tc := ⟨.hbm, 343, rfl⟩
abbrev main_v157 : Ref sig .tc := ⟨.hbm, 344, rfl⟩
abbrev main_v158 : Ref sig .tc := ⟨.hbm, 345, rfl⟩
abbrev main_v159 : Ref sig .tc := ⟨.hbm, 346, rfl⟩
abbrev main_v160 : Ref sig .tc := ⟨.hbm, 347, rfl⟩
abbrev main_v161 : Ref sig .tc := ⟨.hbm, 348, rfl⟩
abbrev main_cst_26 : Ref sig .tc := ⟨.hbm, 349, rfl⟩
abbrev main_v162 : Ref sig .tc := ⟨.hbm, 350, rfl⟩
abbrev main_v163 : Ref sig .tc := ⟨.hbm, 351, rfl⟩
abbrev main_v164 : Ref sig .tc := ⟨.hbm, 352, rfl⟩
abbrev main_cst_27 : Ref sig .tc := ⟨.hbm, 353, rfl⟩
abbrev main_v165 : Ref sig .tc := ⟨.hbm, 354, rfl⟩
abbrev main_v166 : Ref sig .tc := ⟨.hbm, 355, rfl⟩
abbrev main_v167 : Ref sig .tc := ⟨.hbm, 356, rfl⟩
abbrev main_v168 : Ref sig .tc := ⟨.hbm, 357, rfl⟩
abbrev main_call12_v0 : Ref sig .tc := ⟨.hbm, 358, rfl⟩
abbrev main_call12_cst : Ref sig .tc := ⟨.hbm, 359, rfl⟩
abbrev main_call12_c : Ref sig .tc := ⟨.hbm, 360, rfl⟩
abbrev main_call12_v1_0 : Ref sig .tc := ⟨.hbm, 361, rfl⟩
abbrev main_v169 : Ref sig .tc := ⟨.hbm, 362, rfl⟩
abbrev main_call13_c : Ref sig .tc := ⟨.hbm, 363, rfl⟩
abbrev main_call13_v0 : Ref sig .tc := ⟨.hbm, 364, rfl⟩
abbrev main_call13_v1 : Ref sig .tc := ⟨.hbm, 365, rfl⟩
abbrev main_call13_c_0 : Ref sig .tc := ⟨.hbm, 366, rfl⟩
abbrev main_call13_v2 : Ref sig .tc := ⟨.hbm, 367, rfl⟩
abbrev main_call13_v3 : Ref sig .tc := ⟨.hbm, 368, rfl⟩
abbrev main_call13_v4 : Ref sig .tc := ⟨.hbm, 369, rfl⟩
abbrev main_call13_v5 : Ref sig .tc := ⟨.hbm, 370, rfl⟩
abbrev main_call13_c_1 : Ref sig .tc := ⟨.hbm, 371, rfl⟩
abbrev main_call13_c_2 : Ref sig .tc := ⟨.hbm, 372, rfl⟩
abbrev main_call13_v6 : Ref sig .tc := ⟨.hbm, 373, rfl⟩
abbrev main_call13_v7 : Ref sig .tc := ⟨.hbm, 374, rfl⟩
abbrev main_call13_v8 : Ref sig .tc := ⟨.hbm, 375, rfl⟩
abbrev main_call13_v9 : Ref sig .tc := ⟨.hbm, 376, rfl⟩
abbrev main_call13_v10 : Ref sig .tc := ⟨.hbm, 377, rfl⟩
abbrev main_call13_v11 : Ref sig .tc := ⟨.hbm, 378, rfl⟩
abbrev main_call13_c_3 : Ref sig .tc := ⟨.hbm, 379, rfl⟩
abbrev main_call13_v12 : Ref sig .tc := ⟨.hbm, 380, rfl⟩
abbrev main_call13_v13 : Ref sig .tc := ⟨.hbm, 381, rfl⟩
abbrev main_call13_v14 : Ref sig .tc := ⟨.hbm, 382, rfl⟩
abbrev main_call13_cst : Ref sig .tc := ⟨.hbm, 383, rfl⟩
abbrev main_call13_v15 : Ref sig .tc := ⟨.hbm, 384, rfl⟩
abbrev main_v170 : Ref sig .tc := ⟨.hbm, 385, rfl⟩
abbrev main_v171 : Ref sig .tc := ⟨.hbm, 386, rfl⟩
abbrev main_v172 : Ref sig .tc := ⟨.hbm, 387, rfl⟩
abbrev main_v173 : Ref sig .tc := ⟨.hbm, 388, rfl⟩
abbrev main_v174 : Ref sig .tc := ⟨.hbm, 389, rfl⟩
abbrev main_v175 : Ref sig .tc := ⟨.hbm, 390, rfl⟩
abbrev main_cst_28 : Ref sig .tc := ⟨.hbm, 391, rfl⟩
abbrev main_v176 : Ref sig .tc := ⟨.hbm, 392, rfl⟩
abbrev main_v177 : Ref sig .tc := ⟨.hbm, 393, rfl⟩
abbrev main_v178 : Ref sig .tc := ⟨.hbm, 394, rfl⟩
abbrev main_cst_29 : Ref sig .tc := ⟨.hbm, 395, rfl⟩
abbrev main_v179 : Ref sig .tc := ⟨.hbm, 396, rfl⟩
abbrev main_v180 : Ref sig .tc := ⟨.hbm, 397, rfl⟩
abbrev main_v181 : Ref sig .tc := ⟨.hbm, 398, rfl⟩
abbrev main_v182 : Ref sig .tc := ⟨.hbm, 399, rfl⟩
abbrev main_v183 : Ref sig .tc := ⟨.hbm, 400, rfl⟩
abbrev main_v184 : Ref sig .tc := ⟨.hbm, 401, rfl⟩
abbrev main_v185 : Ref sig .tc := ⟨.hbm, 402, rfl⟩
abbrev main_cst_30 : Ref sig .tc := ⟨.hbm, 403, rfl⟩
abbrev main_v186 : Ref sig .tc := ⟨.hbm, 404, rfl⟩
abbrev main_v187 : Ref sig .tc := ⟨.hbm, 405, rfl⟩
abbrev main_v188 : Ref sig .tc := ⟨.hbm, 406, rfl⟩
abbrev main_cst_31 : Ref sig .tc := ⟨.hbm, 407, rfl⟩
abbrev main_v189 : Ref sig .tc := ⟨.hbm, 408, rfl⟩
abbrev main_v190 : Ref sig .tc := ⟨.hbm, 409, rfl⟩
abbrev main_v191 : Ref sig .tc := ⟨.hbm, 410, rfl⟩
abbrev main_v192 : Ref sig .tc := ⟨.hbm, 411, rfl⟩
abbrev main_call14_v0 : Ref sig .tc := ⟨.hbm, 412, rfl⟩
abbrev main_call14_cst : Ref sig .tc := ⟨.hbm, 413, rfl⟩
abbrev main_call14_c : Ref sig .tc := ⟨.hbm, 414, rfl⟩
abbrev main_call14_v1_0 : Ref sig .tc := ⟨.hbm, 415, rfl⟩
abbrev main_v193 : Ref sig .tc := ⟨.hbm, 416, rfl⟩
abbrev main_call15_c : Ref sig .tc := ⟨.hbm, 417, rfl⟩
abbrev main_call15_v0 : Ref sig .tc := ⟨.hbm, 418, rfl⟩
abbrev main_call15_v1 : Ref sig .tc := ⟨.hbm, 419, rfl⟩
abbrev main_call15_c_0 : Ref sig .tc := ⟨.hbm, 420, rfl⟩
abbrev main_call15_v2 : Ref sig .tc := ⟨.hbm, 421, rfl⟩
abbrev main_call15_v3 : Ref sig .tc := ⟨.hbm, 422, rfl⟩
abbrev main_call15_v4 : Ref sig .tc := ⟨.hbm, 423, rfl⟩
abbrev main_call15_v5 : Ref sig .tc := ⟨.hbm, 424, rfl⟩
abbrev main_call15_c_1 : Ref sig .tc := ⟨.hbm, 425, rfl⟩
abbrev main_call15_c_2 : Ref sig .tc := ⟨.hbm, 426, rfl⟩
abbrev main_call15_v6 : Ref sig .tc := ⟨.hbm, 427, rfl⟩
abbrev main_call15_v7 : Ref sig .tc := ⟨.hbm, 428, rfl⟩
abbrev main_call15_v8 : Ref sig .tc := ⟨.hbm, 429, rfl⟩
abbrev main_call15_v9 : Ref sig .tc := ⟨.hbm, 430, rfl⟩
abbrev main_call15_v10 : Ref sig .tc := ⟨.hbm, 431, rfl⟩
abbrev main_call15_v11 : Ref sig .tc := ⟨.hbm, 432, rfl⟩
abbrev main_call15_c_3 : Ref sig .tc := ⟨.hbm, 433, rfl⟩
abbrev main_call15_v12 : Ref sig .tc := ⟨.hbm, 434, rfl⟩
abbrev main_call15_v13 : Ref sig .tc := ⟨.hbm, 435, rfl⟩
abbrev main_call15_v14 : Ref sig .tc := ⟨.hbm, 436, rfl⟩
abbrev main_call15_cst : Ref sig .tc := ⟨.hbm, 437, rfl⟩
abbrev main_call15_v15 : Ref sig .tc := ⟨.hbm, 438, rfl⟩
abbrev main_v194 : Ref sig .tc := ⟨.hbm, 439, rfl⟩
abbrev main_v195 : Ref sig .tc := ⟨.hbm, 440, rfl⟩
abbrev main_v196 : Ref sig .tc := ⟨.hbm, 441, rfl⟩
abbrev main_v197 : Ref sig .tc := ⟨.hbm, 442, rfl⟩
abbrev main_v198 : Ref sig .tc := ⟨.hbm, 443, rfl⟩
abbrev main_v199 : Ref sig .tc := ⟨.hbm, 444, rfl⟩
abbrev main_v200 : Ref sig .tc := ⟨.hbm, 445, rfl⟩
abbrev main_v201 : Ref sig .tc := ⟨.hbm, 446, rfl⟩
abbrev main_v202 : Ref sig .tc := ⟨.hbm, 447, rfl⟩
abbrev main_v203 : Ref sig .tc := ⟨.hbm, 448, rfl⟩
abbrev main_v204 : Ref sig .tc := ⟨.hbm, 449, rfl⟩
abbrev main_v205 : Ref sig .tc := ⟨.hbm, 450, rfl⟩
abbrev main_v206 : Ref sig .tc := ⟨.hbm, 451, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

local notation "𝕄" => MT nD τ sig Unit (Elt F) ℕ (UR sig nD τ) ℕ

/-! ## What one point does, as functions of the buffers' contents -/

/-- The word of the condition «the row block's number is 0». -/
abbrev cond1 (i : grid0.Coords) : BitVec 1 :=
  Scalar.cmpi .ne (Scalar.extui (Scalar.cmpi .eq (BitVec.ofNat 32 (i 1).val) 0#32) : BitVec 32) 0#32

/-- The point's block of rows of a scratch of 4096 rows. -/
def rowsOf (i : grid0.Coords) (d : Vec F S4096x64 .f32) : Vec F S128x64 .f32 :=
  VecWindow.window d (k0_off2 i) S128x64.size (k0_off2_inb i)
/-- The scratch with the point's block of rows replaced. -/
def putRows (i : grid0.Coords) (d : Vec F S4096x64 .f32) (b : Vec F S128x64 .f32) : Vec F S4096x64 .f32 :=
  VecWindow.put d (k0_off2 i) S128x64.size b

/-- The rows read where they were just written are the ones written. -/
theorem rowsOf_putRows (i : grid0.Coords) (d : Vec F S4096x64 .f32) (b : Vec F S128x64 .f32) : rowsOf i (putRows i d b) = b :=
  VecWindow.window_put_same d _ _ _ b

/-- The transposed codebook after the first step. -/
def cbtOf (i : grid0.Coords) (d5 : Vec F S1x8192x64 .f32) (d10 : Vec F S64x8192 .f32) : Vec F S64x8192 .f32 :=
  if cond1 i = 1#1 then k0_pay4 d5 else d10
/-- The codewords' squared lengths after the first step. -/
def b2Of (i : grid0.Coords) (d5 : Vec F S1x8192x64 .f32) (d11 : Vec F S1x8192 .f32) : Vec F S1x8192 .f32 :=
  if cond1 i = 1#1 then k0_pay5 d5 else d11
/-- The projected rows after the second step. -/
def xOf (i : grid0.Coords) (d2 : Vec F S128x64 .f32) (d3 : Vec F S64x64 .f32) (d4 : Vec F S1x64 .f32) (d8 : Vec F S4096x64 .f32) : Vec F S4096x64 .f32 :=
  if k0_cond2 i = 1#1 then putRows i d8 (k0_pay7 d2 d3 d4) else d8
/-- The residual rows after the second step. -/
def rOf (i : grid0.Coords) (d2 : Vec F S128x64 .f32) (d3 : Vec F S64x64 .f32) (d4 : Vec F S1x64 .f32) (d9 : Vec F S4096x64 .f32) : Vec F S4096x64 .f32 :=
  if k0_cond2 i = 1#1 then putRows i d9 (k0_pay8 d2 d3 d4) else d9
/-- The column numbers of the logits' block. -/
abbrev cols : IVec S128x8192 32 := iota .tc S128x8192 32 [1] iota_S128x8192_d1_w32
/-- The next residual of a block of rows `r`. -/
def nextOf (r : Vec F S128x64 .f32) (cbt : Vec F S64x8192 .f32) (b2 : Vec F S1x8192 .f32) (d5 : Vec F S1x8192x64 .f32) : Vec F S128x64 .f32 :=
  k0_pay1 r cols (k0_pay10 r cbt b2) d5

/-- The scratch buffer of the projected rows. -/
abbrev sc0 : Memref sig .tc .vmem S4096x64 .f32 := Memref.whole cc0_scratch0
/-- The scratch buffer of the residual rows. -/
abbrev sc1 : Memref sig .tc .vmem S4096x64 .f32 := Memref.whole cc0_scratch1
/-- The scratch buffer of the transposed codebook. -/
abbrev sc2 : Memref sig .tc .vmem S64x8192 .f32 := Memref.whole cc0_scratch2
/-- The scratch buffer of the codewords' squared norms. -/
abbrev sc3 : Memref sig .tc .vmem S1x8192 .f32 := Memref.whole cc0_scratch3

/-- The first rows written start where the rows read do. -/
theorem off1_eq (i : grid0.Coords) : k0_off1 i = k0_off2 i := rfl
/-- The last rows written start where the rows read do. -/
theorem off3_eq (i : grid0.Coords) : k0_off3 i = k0_off2 i := rfl

section Reads

variable {r : ℕ} {sz : Fin r → ℕ} {e : EltTy} {sp : Space} {off off' : Fin r → ℕ}

/-- A load of all of a buffer reads all of it. -/
theorem ld_full (v : View sig .tc sp ⟨r, sz⟩ e) (f : v.ty.Contents (Elt F)) (inb : ∀ a, off a + sz a ≤ sz a) :
    v.readAt (Elt F) (Rect.unit (s := ⟨r, sz⟩) off sz inb).toLoadRect f = v.read (Elt F) f := View.readAt_full v f inb
/-- A store of all of a buffer leaves what was stored. -/
theorem st_full (v : View sig .tc sp ⟨r, sz⟩ e) (f : v.ty.Contents (Elt F)) (inb : ∀ a, off a + sz a ≤ sz a) (w) (L) :
    v.read (Elt F) (v.writes (Elt F) f (⟨Rect.unit (s := ⟨r, sz⟩) off sz inb, w⟩ :: L)) = w := View.read_writes_full v f inb w L
/-- A load of all of a buffer after a store of all of it reads what was stored. -/
theorem cov_full (v : View sig .tc sp ⟨r, sz⟩ e) (inb : ∀ a, off a + sz a ≤ sz a) (inb' : ∀ a, off' a + sz a ≤ sz a) (w) (L) :
    v.readCov (Val := Elt F) (⟨Rect.unit (s := ⟨r, sz⟩) off' sz inb', w⟩ :: L) (Rect.unit (s := ⟨r, sz⟩) off sz inb).toLoadRect = w :=
  View.readCov_full v inb inb' w L

/-- A load of a window of a buffer. -/
theorem ld_unit {size : Fin r → ℕ} (v : View sig .tc sp ⟨r, sz⟩ e) (f : v.ty.Contents (Elt F)) (inb : ∀ a, off a + size a ≤ sz a) :
    v.readAt (Elt F) (Rect.unit (s := ⟨r, sz⟩) off size inb).toLoadRect f = VecWindow.window (v.read (Elt F) f) off size inb := rfl
/-- A store of a window, over any earlier stores. -/
theorem st_unit {size : Fin r → ℕ} (v : View sig .tc sp ⟨r, sz⟩ e) (f : v.ty.Contents (Elt F)) (inb : ∀ a, off a + size a ≤ sz a) (w) (L) :
    v.read (Elt F) (v.writes (Elt F) f (⟨Rect.unit (s := ⟨r, sz⟩) off size inb, w⟩ :: L)) = VecWindow.put (v.read (Elt F) (v.writes (Elt F) f L)) off size w :=
  View.read_writes_cons_put v f inb w L rfl
/-- A load of a window after a store there reads what was stored. -/
theorem cov_unit {size : Fin r → ℕ} (v : View sig .tc sp ⟨r, sz⟩ e) (inb inb' : ∀ a, off a + size a ≤ sz a) (w) (L) :
    v.readCov (Val := Elt F) (⟨Rect.unit (s := ⟨r, sz⟩) off size inb, w⟩ :: L) (Rect.unit (s := ⟨r, sz⟩) off size inb').toLoadRect = w :=
  (ld_unit v _ inb').trans ((congrArg (fun X => VecWindow.window (s := ⟨r, sz⟩) X off size inb') (st_unit v _ inb w L)).trans (VecWindow.window_put_same (s := ⟨r, sz⟩) _ off size inb' w))

end Reads

/-- A second replacement of the point's rows hides the first. -/
theorem putRows_putRows (i : grid0.Coords) (d : Vec F S4096x64 .f32) (b b' : Vec F S128x64 .f32) : putRows i (putRows i d b) b' = putRows i d b' :=
  VecWindow.put_put_same d _ _ b b'

set_option backward.isDefEq.respectTransparency.types false in
/-- One grid point of the kernel, over any contents of its buffers: the loaded blocks are unchanged, the logits' block and
the scratch buffers hold what the definitions above name, and the last block is written at the last level only. -/
theorem kernelRun (c : Dev nD) (i : grid0.Coords)
    (arg2 : Memref sig .tc .vmem S128x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S1x8192x64 .f32) (harg5 : arg5.IsWhole)
    (arg6 : Memref sig .tc .vmem S128x8192 .f32) (harg6 : arg6.IsWhole) (arg7 : Memref sig .tc .vmem S128x64 .f32) (harg7 : arg7.IsWhole)
    (arg8 : Memref sig .tc .vmem S4096x64 .f32) (harg8 : arg8.IsWhole) (arg9 : Memref sig .tc .vmem S4096x64 .f32) (harg9 : arg9.IsWhole)
    (arg10 : Memref sig .tc .vmem S64x8192 .f32) (harg10 : arg10.IsWhole) (arg11 : Memref sig .tc .vmem S1x8192 .f32) (harg11 : arg11.IsWhole)
    (d2 : Vec F S128x64 .f32) (d3 : Vec F S64x64 .f32) (d4 : Vec F S1x64 .f32) (d5 : Vec F S1x8192x64 .f32) (d6 : Vec F S128x8192 .f32) (d7 : Vec F S128x64 .f32)
    (d8 d9 : Vec F S4096x64 .f32) (d10 : Vec F S64x8192 .f32) (d11 : Vec F S1x8192 .f32)
    (K : PUnit → sProp 𝕄) :
    iprop(owns (c : Thread nD τ) arg2 fullShare d2 ∗ owns (c : Thread nD τ) arg3 fullShare d3 ∗ owns (c : Thread nD τ) arg4 fullShare d4
        ∗ owns (c : Thread nD τ) arg5 fullShare d5 ∗ owns (c : Thread nD τ) arg6 fullShare d6 ∗ owns (c : Thread nD τ) arg7 fullShare d7
        ∗ owns (c : Thread nD τ) arg8 fullShare d8 ∗ owns (c : Thread nD τ) arg9 fullShare d9 ∗ owns (c : Thread nD τ) arg10 fullShare d10 ∗ owns (c : Thread nD τ) arg11 fullShare d11
        ∗ (iprop(owns (c : Thread nD τ) arg2 fullShare d2 ∗ owns (c : Thread nD τ) arg3 fullShare d3 ∗ owns (c : Thread nD τ) arg4 fullShare d4
            ∗ owns (c : Thread nD τ) arg5 fullShare d5
            ∗ owns (c : Thread nD τ) arg6 fullShare (k0_pay9 (rowsOf i (rOf i d2 d3 d4 d9)) (cbtOf i d5 d10) (b2Of i d5 d11))
            ∗ owns (c : Thread nD τ) arg7 fullShare (if k0_cond3 i = 1#1 then k0_pay2 (rowsOf i (xOf i d2 d3 d4 d8)) (nextOf (rowsOf i (rOf i d2 d3 d4 d9)) (cbtOf i d5 d10) (b2Of i d5 d11) d5) else d7)
            ∗ owns (c : Thread nD τ) arg8 fullShare (xOf i d2 d3 d4 d8)
            ∗ owns (c : Thread nD τ) arg9 fullShare (putRows i (rOf i d2 d3 d4 d9) (nextOf (rowsOf i (rOf i d2 d3 d4 d9)) (cbtOf i d5 d10) (b2Of i d5 d11) d5))
            ∗ owns (c : Thread nD τ) arg10 fullShare (cbtOf i d5 d10) ∗ owns (c : Thread nD τ) arg11 fullShare (b2Of i d5 d11)) -∗ K ⟨⟩))
      ⊢ wp frame (wpE (defs₀ (F := F)) Variants.none c none) Set.univ
          (cc0__vq_kernel i arg2 harg2 arg3 harg3 arg4 harg4 arg5 harg5 arg6 harg6 arg7 harg7 arg8 harg8 arg9 harg9 arg10 harg10 arg11 harg11) K := by
  simp only [cc0__vq_kernel_eq_skeleton]; unfold cc0__vq_kernel_skel
  simp only [k0_part1_eq_skeleton]; unfold k0_part1_skel
  unfold owns xOf rOf cbtOf b2Of
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf2 hf3 hf4 hf5 hf6 hf7 hf8 hf9 hf10 hf11
  by_cases h1 : cond1 i = 1#1 <;> by_cases h2 : k0_cond2 i = 1#1 <;> by_cases h3 : k0_cond3 i = 1#1
  all_goals
    sl_exec (disch := assumption)
    sl_step
    simp only [h1, h2, h3, if_true, if_false]
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)
    isplitl [H7]
    · iexists _; isplitr; swap; · iexact H7
      ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)
    isplitl [H8]
    · iexists _; isplitr; swap; · iexact H8
      ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)
    isplitl [H9]
    · iexists _; isplitr; swap; · iexact H9
      ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)
    isplitl [H10]
    · iexists _; isplitr; swap; · iexact H10
      ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)
    iexists _; isplitr; swap; · iexact H11
    ipureintro; sl_unfold_run_names; (try simp only [off1_eq, off3_eq, ld_full, cov_full, st_full, rowsOf_putRows, putRows_putRows, nextOf]); (try simp only [rowsOf, putRows, ld_unit, cov_unit, st_unit, View.writes_nil, VecWindow.put_put_same, VecWindow.window_put_same]); (try rfl)

end Cert.KernelIdeal.Hand
end
-- ==== Proof.Region.lean ====
module

public import proofs.«01_k».proof.Proof.Body
public import Idealize.ShloMosaic.Lib.Pipeline.DatRel
public import Idealize.ShloMosaic.Lib.Pipeline.ArrRel
public import Idealize.ShloMosaic.Lib.Pipeline.FrameBody
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The schedule's numbers: point t is level t / 32, row block t % 32 -/

/-- The grid point of number n (taken below 256). -/
def pt (n : ℕ) : Fin cfg0.N := ⟨n % 256, lt_of_lt_of_eq (Nat.mod_lt _ (by decide)) N_0.symm⟩

/-- The grid has 256 points. -/
theorem lt256 (t : Fin cfg0.N) : t.val < 256 := lt_of_lt_of_eq t.isLt N_0

/-- The block of a point. -/
theorem coord1 (t : Fin cfg0.N) : ((grid0.coords t) 1).val = t.val % 32 := by
  have h := Pipeline.Grid.coords_val (G := grid0) t 1 (S := 1) (B := 32) (by decide) (by decide)
  omega
/-- The level of a point. -/
theorem coord0 (t : Fin cfg0.N) : ((grid0.coords t) 0).val = t.val / 32 := by
  have h := Pipeline.Grid.coords_val (G := grid0) t 0 (S := 32) (B := 8) (by decide) (by decide)
  have := lt256 t
  omega

/-- The comparison of a row block's number with 0. -/
theorem flag32 : ∀ a : Fin 32, (Scalar.cmpi .ne (Scalar.extui (Scalar.cmpi .eq (BitVec.ofNat 32 a.val) 0#32) : BitVec 32) 0#32 = 1#1) ↔ a.val = 0 := by decide
/-- The comparison of a level's number with 0. -/
theorem flag8 : ∀ a : Fin 8, (Scalar.cmpi .ne (Scalar.extui (Scalar.cmpi .eq (BitVec.ofNat 32 a.val) 0#32) : BitVec 32) 0#32 = 1#1) ↔ a.val = 0 := by decide
/-- The comparison of a level's number with 7. -/
theorem flag7 : ∀ a : Fin 8, (Scalar.cmpi .ne (Scalar.extui (Scalar.cmpi .eq (BitVec.ofNat 32 a.val) 7#32) : BitVec 32) 0#32 = 1#1) ↔ a.val = 7 := by decide
/-- The first row of a row block. -/
theorem row32 : ∀ a : Fin 32, (Scalar.indexCast (Scalar.muli (BitVec.ofNat 32 a.val) 128#32)).toNat = 128 * a.val := by decide

/-- The codebook is transposed at the first block of a level. -/
theorem cond1_iff (t : Fin cfg0.N) : cond1 (grid0.coords t) = 1#1 ↔ t.val % 32 = 0 := by
  rw [← coord1 t]; exact flag32 (grid0.coords t 1)
/-- The rows are projected at the first level. -/
theorem cond2_iff (t : Fin cfg0.N) : k0_cond2 (grid0.coords t) = 1#1 ↔ t.val < 32 := by
  have h : k0_cond2 (grid0.coords t) = 1#1 ↔ ((grid0.coords t) 0).val = 0 := flag8 (grid0.coords t 0)
  rw [h, coord0]; omega
/-- The sum is written at the last level. -/
theorem cond3_iff (t : Fin cfg0.N) : k0_cond3 (grid0.coords t) = 1#1 ↔ 224 ≤ t.val := by
  have h : k0_cond3 (grid0.coords t) = 1#1 ↔ ((grid0.coords t) 0).val = 7 := flag7 (grid0.coords t 0)
  rw [h, coord0]; have := lt256 t; omega
/-- The rows of a point start at 128 times its block. -/
theorem off2_val (t : Fin cfg0.N) : k0_off2 (grid0.coords t) = ![128 * (t.val % 32), 0] := by
  have h := row32 (grid0.coords t 1)
  rw [coord1] at h
  exact congrArg (fun n : ℕ => (![n, 0] : Fin 2 → ℕ)) (by rw [← h, ← coord1 t])

/-- The rows read depend only on where they start. -/
theorem rowsOf_congr {i i' : grid0.Coords} (h : k0_off2 i = k0_off2 i') (d : Vec F S4096x64 .f32) : rowsOf i d = rowsOf i' d := by
  unfold rowsOf
  have : ∀ (o o' : Fin 2 → ℕ) (ho) (ho') (e : o = o'), VecWindow.window (s := S4096x64) d o S128x64.size ho = VecWindow.window (s := S4096x64) d o' S128x64.size ho' := by
    intro o o' ho ho' e; subst e; rfl
  exact this _ _ _ _ h
/-- Points of the same block read the same rows. -/
theorem rowsOf_mod {t t' : Fin cfg0.N} (h : t.val % 32 = t'.val % 32) (d : Vec F S4096x64 .f32) :
    rowsOf (grid0.coords t) d = rowsOf (grid0.coords t') d :=
  rowsOf_congr (by rw [off2_val, off2_val, h]) d
/-- Writing the rows of one block leaves those of another. -/
theorem rowsOf_putRows_ne {t t' : Fin cfg0.N} (h : t.val % 32 ≠ t'.val % 32) (d : Vec F S4096x64 .f32) (b : Vec F S128x64 .f32) :
    rowsOf (grid0.coords t') (putRows (grid0.coords t) d b) = rowsOf (grid0.coords t') d :=
  VecWindow.window_put_of_disjoint d _ _ _ _ _ b (0 : Fin 2) (by
    rw [off2_val, off2_val]
    show 128 * (t'.val % 32) + 128 ≤ 128 * (t.val % 32) ∨ 128 * (t.val % 32) + 128 ≤ 128 * (t'.val % 32)
    omega)

/-! ## What each point reads and computes -/

/-- The features' rows that point t reads. -/
def featB (c : Dev nD) (t : Fin cfg0.N) : Vec F S128x64 .f32 := iblk m c 0 t
/-- The projection matrix. -/
def wB (c : Dev nD) (t : Fin cfg0.N) : Vec F S64x64 .f32 := iblk m c 1 t
/-- The bias as a row. -/
def bB (c : Dev nD) (t : Fin cfg0.N) : Vec F S1x64 .f32 := iblk m c 2 t
/-- The codebook that point t reads. -/
def cbB (c : Dev nD) (t : Fin cfg0.N) : Vec F S1x8192x64 .f32 := iblk m c 3 t

/-- The words of the small coordinates are the coordinates. -/
theorem word32 : ∀ a : Fin 32, (BitVec.ofNat 32 a.val).toNat = a.val := by decide
/-- A number below eight is read back from its word. -/
theorem word8 : ∀ a : Fin 8, (BitVec.ofNat 32 a.val).toNat = a.val := by decide

/-- The block of features of a point, at an element. -/
theorem featB_apply (c : Dev nD) (t : Fin cfg0.N) (j : S128x64.Idx) :
    featB m c t j = V m c main_arg0 (ix2 (n0 := 4096) (n1 := 64) ⟨128 * (t.val % 32) + (j 0).val, by have := (j 0).isLt; have : (j 0).val < 128 := this; omega⟩ (j 1)) := by
  show V m c main_arg0 _ = V m c main_arg0 _
  refine congrArg (V m c main_arg0) (funext fun a => Fin.ext ?_)
  have hw := word32 (grid0.coords t 1)
  rw [coord1] at hw
  match a with
  | ⟨0, _⟩ =>
    show (BitVec.ofNat 32 ((grid0.coords t) 1).val).toNat * 128 + 1 * (j 0).val = 128 * (t.val % 32) + (j 0).val
    rw [coord1]; omega
  | ⟨1, _⟩ =>
    show 0 * 64 + 1 * (j 1).val = (j 1).val
    omega
/-- The block of weights is all the weights. -/
theorem wB_apply (c : Dev nD) (t : Fin cfg0.N) (j : S64x64.Idx) : wB m c t j = V m c main_arg1 j := by
  show V m c main_arg1 _ = V m c main_arg1 _
  refine congrArg (V m c main_arg1) (funext fun a => Fin.ext ?_)
  match a with
  | ⟨0, _⟩ => show 0 * 64 + 1 * (j 0).val = (j 0).val; omega
  | ⟨1, _⟩ => show 0 * 64 + 1 * (j 1).val = (j 1).val; omega
/-- The block of the bias is all the bias. -/
theorem bB_apply (c : Dev nD) (t : Fin cfg0.N) (j : S1x64.Idx) : bB m c t j = V m c main_v0 j := by
  show V m c main_v0 _ = V m c main_v0 _
  refine congrArg (V m c main_v0) (funext fun a => Fin.ext ?_)
  match a with
  | ⟨0, _⟩ => show 0 * 1 + 1 * (j 0).val = (j 0).val; omega
  | ⟨1, _⟩ => show 0 * 64 + 1 * (j 1).val = (j 1).val; omega
/-- The block of codebooks of a point is its level's codebook. -/
theorem cbB_apply (c : Dev nD) (t : Fin cfg0.N) (j : S1x8192x64.Idx) :
    cbB m c t j = V m c main_arg3 (ix3 (n0 := 8) (n1 := 8192) (n2 := 64) ⟨t.val / 32, by have := lt256 t; omega⟩ (j 1) (j 2)) := by
  show V m c main_arg3 _ = V m c main_arg3 _
  refine congrArg (V m c main_arg3) (funext fun a => Fin.ext ?_)
  have hw := word8 (grid0.coords t 0)
  rw [coord0] at hw
  have h0 : (j 0).val < 1 := (j 0).isLt
  match a with
  | ⟨0, _⟩ =>
    show (BitVec.ofNat 32 ((grid0.coords t) 0).val).toNat * 1 + 1 * (j 0).val = t.val / 32
    rw [coord0]; omega
  | ⟨1, _⟩ => show 0 * 8192 + 1 * (j 1).val = (j 1).val; omega
  | ⟨2, _⟩ => show 0 * 64 + 1 * (j 2).val = (j 2).val; omega

/-- Points of the same block have the same features. -/
theorem featB_congr (c : Dev nD) {t t' : Fin cfg0.N} (h : t.val % 32 = t'.val % 32) : featB m c t = featB m c t' := by
  funext j; rw [featB_apply, featB_apply]; simp only [h]
/-- All points have the same weights. -/
theorem wB_congr (c : Dev nD) (t t' : Fin cfg0.N) : wB m c t = wB m c t' := by
  funext j; rw [wB_apply, wB_apply]
/-- All points have the same bias. -/
theorem bB_congr (c : Dev nD) (t t' : Fin cfg0.N) : bB m c t = bB m c t' := by
  funext j; rw [bB_apply, bB_apply]
/-- Points of the same level have the same codebook. -/
theorem cbB_congr (c : Dev nD) {t t' : Fin cfg0.N} (h : t.val / 32 = t'.val / 32) : cbB m c t = cbB m c t' := by
  funext j; rw [cbB_apply, cbB_apply]; simp only [h]

/-- The projected rows of block i. -/
def XB (c : Dev nD) (i : ℕ) : Vec F S128x64 .f32 := k0_pay7 (featB m c (pt i)) (wB m c (pt i)) (bB m c (pt i))
/-- The residual rows of block i before level l. -/
def RB (c : Dev nD) : ℕ → ℕ → Vec F S128x64 .f32
  | 0, i => k0_pay8 (featB m c (pt i)) (wB m c (pt i)) (bB m c (pt i))
  | l + 1, i => nextOf (RB c l i) (k0_pay4 (cbB m c (pt (32 * l)))) (k0_pay5 (cbB m c (pt (32 * l)))) (cbB m c (pt (32 * l)))
/-- The residual rows one level on. -/
theorem RB_succ (c : Dev nD) (l i : ℕ) : RB m c (l + 1) i
    = nextOf (RB m c l i) (k0_pay4 (cbB m c (pt (32 * l)))) (k0_pay5 (cbB m c (pt (32 * l)))) (cbB m c (pt (32 * l))) := rfl
/-- The logits of block i at level l. -/
def LB (c : Dev nD) (l i : ℕ) : Vec F S128x8192 .f32 :=
  k0_pay9 (RB m c l i) (k0_pay4 (cbB m c (pt (32 * l)))) (k0_pay5 (cbB m c (pt (32 * l))))
/-- The quantised sum of block i. -/
def QB (c : Dev nD) (i : ℕ) : Vec F S128x64 .f32 := k0_pay2 (XB m c i) (RB m c 8 i)

/-- What the scratch buffers hold before point n. -/
structure Inv (c : Dev nD) (n : ℕ) (d8 d9 : Vec F S4096x64 .f32) (d10 : Vec F S64x8192 .f32) (d11 : Vec F S1x8192 .f32) : Prop where
  hx : ∀ j : ℕ, j < 32 → j < n → rowsOf (grid0.coords (pt j)) d8 = XB m c j
  hr : ∀ j : ℕ, j < 32 → j < n → rowsOf (grid0.coords (pt j)) d9 = RB m c ((n + 31 - j) / 32) j
  hc : n % 32 ≠ 0 → d10 = k0_pay4 (cbB m c (pt (32 * (n / 32)))) ∧ d11 = k0_pay5 (cbB m c (pt (32 * (n / 32))))

/-- Before the first point nothing is asked of the scratch buffers. -/
theorem Inv.zero (c : Dev nD) (d8 d9 : Vec F S4096x64 .f32) (d10 : Vec F S64x8192 .f32) (d11 : Vec F S1x8192 .f32) : Inv m c 0 d8 d9 d10 d11 :=
  ⟨fun _ _ h => absurd h (Nat.not_lt_zero _), fun _ _ h => absurd h (Nat.not_lt_zero _), fun h => absurd rfl h⟩

section Step

variable {m} {c : Dev nD} {t : Fin cfg0.N} {d8 d9 : Vec F S4096x64 .f32} {d10 : Vec F S64x8192 .f32} {d11 : Vec F S1x8192 .f32}

/-- The number of a grid point is its number. -/
theorem pt_val (n : ℕ) (h : n < 256) : (pt n).val = n := Nat.mod_eq_of_lt h

/-- The transposed codebook that a point uses is its level's. -/
theorem step_cbt (h : Inv m c t.val d8 d9 d10 d11) : cbtOf (grid0.coords t) (cbB m c t) d10 = k0_pay4 (cbB m c (pt (32 * (t.val / 32)))) := by
  have ht := lt256 t
  unfold cbtOf
  by_cases h1 : cond1 (grid0.coords t) = 1#1
  · rw [if_pos h1, cbB_congr m c (t := t) (t' := pt (32 * (t.val / 32))) (by rw [pt_val _ (by omega)]; omega)]
  · rw [if_neg h1]; exact (h.hc fun e => h1 ((cond1_iff t).mpr e)).1
/-- The squared norms that a point uses are its level's. -/
theorem step_b2 (h : Inv m c t.val d8 d9 d10 d11) : b2Of (grid0.coords t) (cbB m c t) d11 = k0_pay5 (cbB m c (pt (32 * (t.val / 32)))) := by
  have ht := lt256 t
  unfold b2Of
  by_cases h1 : cond1 (grid0.coords t) = 1#1
  · rw [if_pos h1, cbB_congr m c (t := t) (t' := pt (32 * (t.val / 32))) (by rw [pt_val _ (by omega)]; omega)]
  · rw [if_neg h1]; exact (h.hc fun e => h1 ((cond1_iff t).mpr e)).2
/-- The codebook of a point is that of its level's first point. -/
theorem step_cb : cbB m c t = cbB m c (pt (32 * (t.val / 32))) := by
  have ht := lt256 t
  exact cbB_congr m c (by rw [pt_val _ (by omega)]; omega)

/-- The projected rows after the point's second step. -/
theorem step_x (h : Inv m c t.val d8 d9 d10 d11) (j : ℕ) (hj : j < 32) (hjt : j < t.val + 1) :
    rowsOf (grid0.coords (pt j)) (xOf (grid0.coords t) (featB m c t) (wB m c t) (bB m c t) d8) = XB m c j := by
  have ht := lt256 t
  unfold xOf
  by_cases h2 : k0_cond2 (grid0.coords t) = 1#1
  · rw [if_pos h2]
    have h2' := (cond2_iff t).mp h2
    by_cases e : j = t.val
    · have et : pt j = t := Fin.ext (by rw [pt_val _ (by omega)]; exact e)
      rw [et, rowsOf_putRows, XB, et]
    · rw [rowsOf_putRows_ne (by rw [pt_val _ (by omega)]; omega)]
      exact h.hx j hj (by omega)
  · rw [if_neg h2]
    have h2' : ¬ t.val < 32 := fun e => h2 ((cond2_iff t).mpr e)
    exact h.hx j hj (by omega)

/-- The residual rows of every block but the point's own after the point's second step. -/
theorem step_r_ne (h : Inv m c t.val d8 d9 d10 d11) (j : ℕ) (hj : j < 32) (hjt : j < t.val) (hne : j ≠ t.val % 32) :
    rowsOf (grid0.coords (pt j)) (rOf (grid0.coords t) (featB m c t) (wB m c t) (bB m c t) d9) = RB m c ((t.val + 31 - j) / 32) j := by
  unfold rOf
  by_cases h2 : k0_cond2 (grid0.coords t) = 1#1
  · rw [if_pos h2, rowsOf_putRows_ne (by rw [pt_val _ (by omega)]; omega)]
    exact h.hr j hj hjt
  · rw [if_neg h2]; exact h.hr j hj hjt

/-- The point's own residual rows after the point's second step. -/
theorem step_r (h : Inv m c t.val d8 d9 d10 d11) :
    rowsOf (grid0.coords t) (rOf (grid0.coords t) (featB m c t) (wB m c t) (bB m c t) d9) = RB m c (t.val / 32) (t.val % 32) := by
  have ht := lt256 t
  unfold rOf
  by_cases h2 : k0_cond2 (grid0.coords t) = 1#1
  · have h2' := (cond2_iff t).mp h2
    have et : pt (t.val % 32) = t := Fin.ext (by rw [pt_val _ (by omega)]; omega)
    rw [if_pos h2, rowsOf_putRows, show t.val / 32 = 0 by omega, RB, et]
  · have h2' : ¬ t.val < 32 := fun e => h2 ((cond2_iff t).mpr e)
    rw [if_neg h2, rowsOf_mod (t' := pt (t.val % 32)) (by rw [pt_val _ (by omega)]; omega), h.hr (t.val % 32) (by omega) (by omega)]
    rw [show (t.val + 31 - t.val % 32) / 32 = t.val / 32 by omega]

/-- The scratch buffers after the point's second step, at the point's block: the invariant is carried to the next point. -/
theorem Inv.step (h : Inv m c t.val d8 d9 d10 d11) :
    Inv m c (t.val + 1) (xOf (grid0.coords t) (featB m c t) (wB m c t) (bB m c t) d8)
      (putRows (grid0.coords t) (rOf (grid0.coords t) (featB m c t) (wB m c t) (bB m c t) d9)
        (nextOf (rowsOf (grid0.coords t) (rOf (grid0.coords t) (featB m c t) (wB m c t) (bB m c t) d9)) (cbtOf (grid0.coords t) (cbB m c t) d10) (b2Of (grid0.coords t) (cbB m c t) d11) (cbB m c t)))
      (cbtOf (grid0.coords t) (cbB m c t) d10) (b2Of (grid0.coords t) (cbB m c t) d11) := by
  have ht := lt256 t
  refine ⟨fun j hj hjt => step_x h j hj hjt, fun j hj hjt => ?_, fun hn => ?_⟩
  · by_cases e : j = t.val % 32
    · rw [rowsOf_mod (t := pt j) (t' := t) (by rw [pt_val _ (by omega)]; omega), rowsOf_putRows, step_r h, step_cbt h, step_b2 h, step_cb (t := t)]
      rw [show (t.val + 1 + 31 - j) / 32 = t.val / 32 + 1 by omega, RB_succ, e]
    · rw [rowsOf_putRows_ne (by rw [pt_val _ (by omega)]; omega), step_r_ne h j hj (by omega) e]
      rw [show (t.val + 1 + 31 - j) / 32 = (t.val + 31 - j) / 32 by omega]
  · rw [show (t.val + 1) / 32 = t.val / 32 by omega]
    exact ⟨step_cbt h, step_b2 h⟩

/-- The logits' block that the point leaves. -/
theorem step_logits (h : Inv m c t.val d8 d9 d10 d11) :
    k0_pay9 (rowsOf (grid0.coords t) (rOf (grid0.coords t) (featB m c t) (wB m c t) (bB m c t) d9)) (cbtOf (grid0.coords t) (cbB m c t) d10) (b2Of (grid0.coords t) (cbB m c t) d11)
      = LB m c (t.val / 32) (t.val % 32) := by
  rw [step_r h, step_cbt h, step_b2 h, LB]

/-- The quantised sum that a point of the last level leaves. -/
theorem step_q (h : Inv m c t.val d8 d9 d10 d11) (h7 : 224 ≤ t.val) :
    k0_pay2 (rowsOf (grid0.coords t) (xOf (grid0.coords t) (featB m c t) (wB m c t) (bB m c t) d8))
        (nextOf (rowsOf (grid0.coords t) (rOf (grid0.coords t) (featB m c t) (wB m c t) (bB m c t) d9)) (cbtOf (grid0.coords t) (cbB m c t) d10) (b2Of (grid0.coords t) (cbB m c t) d11) (cbB m c t))
      = QB m c (t.val % 32) := by
  have ht := lt256 t
  rw [rowsOf_mod (t := t) (t' := pt (t.val % 32)) (by rw [pt_val _ (by omega)]; omega), step_x h _ (by omega) (by omega), step_r h, step_cbt h, step_b2 h, step_cb (t := t), QB, RB_succ,
    show t.val / 32 = 7 by omega]

end Step

/-! ## The proof data and the body obligation -/

/-- The last window is held to a predicate only: the points before the last level leave in it what they find. -/
def marked : Fin 6 → Bool := fun | 5 => true | _ => false

/-- What the last window holds after a point: at the last level, the quantised sum of the point's block. -/
def Rl (c : Dev nD) : (w : Fin cfg0.W) → Fin cfg0.N → ((cfg0.win w).block.Idx → Elt F (cfg0.win w).elt) → Prop
  | ⟨5, _⟩ => fun t X => 224 ≤ t.val → X = QB m c (t.val % 32)
  | _ => fun _ _ => True

/-- The invariant before point n: the scratch buffers as `Inv` says, the generator register at some state. -/
def Phi (c : Dev nD) (n : ℕ) : sProp 𝕄 :=
  iprop(∃ d8 d9 d10 d11, ⌜Inv m c n d8 d9 d10 d11⌝ ∗ owns (c : Thread nD τ) sc0 fullShare d8 ∗ owns (c : Thread nD τ) sc1 fullShare d9
    ∗ owns (c : Thread nD τ) sc2 fullShare d10 ∗ owns (c : Thread nD τ) sc3 fullShare d11 ∗ ∃ r, prngReg c r)

/-- The proof data: each input's block as read off its array, the logits' block of the point, the last window unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => LB m c (t.val / 32) (t.val % 32)
    | ⟨5, _⟩ => QB m c (t.val % 32)
  Φ t := Phi m c t.val
  q _ := fullShare
  owed _ := 0

/-- The same data with the last window held to its predicate. -/
abbrev rdat (c : Dev nD) := (dats m 0 c).toRRel marked (Rl m c)

/-- A window's array is the buffer as the region finds it. -/
theorem A_eq (c : Dev nD) (w : Fin cfg0.W) : (dats m 0 c).A w = V m c (Pipeline.arrRef spec0 w) := by dsimp only [dats]
/-- A point leaves the features' window as it was. -/
theorem after_0 (c : Dev nD) (t : Fin cfg0.N) : (dats m 0 c).after 0 t = iblk m c 0 t := by dsimp only [dats]
/-- A point leaves the weights' window as it was. -/
theorem after_1 (c : Dev nD) (t : Fin cfg0.N) : (dats m 0 c).after 1 t = iblk m c 1 t := by dsimp only [dats]
/-- A point leaves the bias' window as it was. -/
theorem after_2 (c : Dev nD) (t : Fin cfg0.N) : (dats m 0 c).after 2 t = iblk m c 2 t := by dsimp only [dats]
/-- A point leaves the codebooks' window as it was. -/
theorem after_3 (c : Dev nD) (t : Fin cfg0.N) : (dats m 0 c).after 3 t = iblk m c 3 t := by dsimp only [dats]
/-- A point leaves its level's logits in the logits' window. -/
theorem after_4 (c : Dev nD) (t : Fin cfg0.N) : (dats m 0 c).after 4 t = LB m c (t.val / 32) (t.val % 32) := by dsimp only [dats]

/-- The staging buffer of the features at a point. -/
abbrev ms0 (t : Fin cfg0.N) : Memref sig .tc .vmem S128x64 .f32 := win0_0.stage (cfg0.slots t 0)
/-- The staging buffer of the weights at a point. -/
abbrev ms1 (t : Fin cfg0.N) : Memref sig .tc .vmem S64x64 .f32 := win0_1.stage (cfg0.slots t 1)
/-- The staging buffer of the bias at a point. -/
abbrev ms2 (t : Fin cfg0.N) : Memref sig .tc .vmem S1x64 .f32 := win0_2.stage (cfg0.slots t 2)
/-- The staging buffer of the codebook at a point. -/
abbrev ms3 (t : Fin cfg0.N) : Memref sig .tc .vmem S1x8192x64 .f32 := win0_3.stage (cfg0.slots t 3)
/-- The staging buffer of the logits at a point. -/
abbrev ms4 (t : Fin cfg0.N) : Memref sig .tc .vmem S128x8192 .f32 := win0_4.stage (cfg0.slots t 4)
/-- The staging buffer of the sum at a point. -/
abbrev ms5 (t : Fin cfg0.N) : Memref sig .tc .vmem S128x64 .f32 := win0_5.stage (cfg0.slots t 5)

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y))
/-- What the body leaves at point t. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜Rl m c 5 t X⌝ ∗ owns (c : Thread nD τ) (ms5 t) fullShare X))

/-- The body at point t: from the invariant before the point to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  unfold Phi
  iintro ⟨⟨%d8, %d9, %d10, %d11, %hI, S0, S1, S2, S3, Hg⟩, HO, ⟨%e0, H0⟩, ⟨%e1, H1⟩, ⟨%e2, H2⟩, ⟨%e3, H3⟩, ⟨%e4, H4⟩, ⟨%Y, %hY, H5⟩⟩
  rw [before0_0_of m (dats m 0 c) (A_eq m c 0) (after_0 m c) t, before0_1_of m (dats m 0 c) (A_eq m c 1) (after_1 m c) t,
    before0_2_of m (dats m 0 c) (A_eq m c 2) (after_2 m c) t, before0_3_of m (dats m 0 c) (A_eq m c 3) (after_3 m c) t]
  iapply (kernelRun c (grid0.coords t) (ms0 t) _ (ms1 t) _ (ms2 t) _ (ms3 t) _ (ms4 t) _ (ms5 t) _ sc0 _ sc1 _ sc2 _ sc3 _
    (featB m c t) (wB m c t) (bB m c t) (cbB m c t) ((dats m 0 c).before 4 t e4) Y d8 d9 d10 d11 _)
  isplitl [H0]; · iexact H0
  isplitl [H1]; · iexact H1
  isplitl [H2]; · iexact H2
  isplitl [H3]; · iexact H3
  isplitl [H4]; · iexact H4
  isplitl [H5]; · iexact H5
  isplitl [S0]; · iexact S0
  isplitl [S1]; · iexact S1
  isplitl [S2]; · iexact S2
  isplitl [S3]; · iexact S3
  iintro ⟨H0, H1, H2, H3, H4, H5, S0, S1, S2, S3⟩
  isplitl [S0 S1 S2 S3 Hg]
  · iexists _, _, _, _
    isplitr
    · ipureintro; exact hI.step
    isplitl [S0]; · iexact S0
    isplitl [S1]; · iexact S1
    isplitl [S2]; · iexact S2
    isplitl [S3]; · iexact S3
    iexact Hg
  isplitl [HO]; · iexact HO
  isplitl [H0]; · rw [after_0]; iexact H0
  isplitl [H1]; · rw [after_1]; iexact H1
  isplitl [H2]; · rw [after_2]; iexact H2
  isplitl [H3]; · rw [after_3]; iexact H3
  isplitl [H4]; · rw [after_4, ← step_logits hI]; iexact H4
  iexists _
  isplitr; swap; · iexact H5
  ipureintro
  intro h7
  rw [if_pos ((cond3_iff t).mpr h7)]
  exact step_q hI h7

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation, the triple restated. -/
theorem body_obligation (c : Dev nD) :
    Pipeline.BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-! ## The launch -/

/-- The scratch buffers as found satisfy the invariant before the first point. -/
theorem phi_in (c : Dev nD) : Pipeline.ΦA spec0 c ⊢ (dats m 0 c).Φ 0 := by
  rw [show (dats m 0 c).Φ 0 = Phi m c 0 from rfl]
  unfold Pipeline.ΦA Phi
  rw [scopedRest0_eq]
  simp only [owns_whole]
  iintro ⟨⟨⟨%f0, S0⟩, ⟨%f1, S1⟩, ⟨%f2, S2⟩, ⟨%f3, S3⟩⟩, Hg⟩
  iexists f0, f1, f2, f3
  isplitr
  · ipureintro; exact Inv.zero m c _ _ _ _
  isplitl [S0]; · iexact S0
  isplitl [S1]; · iexact S1
  isplitl [S2]; · iexact S2
  isplitl [S3]; · iexact S3
  iexact Hg

/-- The invariant after the last point gives the scratch buffers back. -/
theorem phi_out (c : Dev nD) : (dats m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  simp only [owns_whole]
  iintro ⟨%f0, %f1, %f2, %f3, -, S0, S1, S2, S3, Hg⟩
  isplitr [Hg]
  · isplitl [S0]; · iexists f0; iexact S0
    isplitl [S1]; · iexists f1; iexact S1
    isplitl [S2]; · iexists f2; iexact S2
    iexists f3; iexact S3
  iexact Hg

set_option backward.isDefEq.respectTransparency.types false in
/-- At any value instance, from any memory with zero counters: every weakly fair execution of @main terminates, each array at
some contents that the proof data allow, every other buffer at its contents at the region's entry, every counter at zero. -/
theorem run_main :
    θ_run defs (onTc (τ := τ) (main (F := F))) (s₀ m ρ)
      (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m)
    (hin := phi_in m) (hout := phi_out m)

end Cert.KernelIdeal.Hand
end
-- ==== Proof.Frame.lean ====
module

public import proofs.«01_k».proof.Proof.Region
public import Idealize.ShloMosaic.Lib.Pipeline.Value
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat)

variable {F : FTy → Type} [FloatOps F] [∀ e, Nonempty (Elt F e)]

variable (m : (ℓ : Loc nD τ sig) → Buf (Elt F) ℓ) (ρ : Dev nD → PrngReg)

/-! ## The arguments at the end -/

/-- After the run every argument holds what it held at the start. -/
theorem args_kept {r : PUnit × MemSt nD τ sig (Elt F)} (h : Pipeline.RDat.FramePost (cfgs 0) (fun c => rdat m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine ⟨?_, ?_, ?_, ?_⟩
  · exact (RDat.FramePost.arr_in h c 0 rfl).trans ((A_eq m c 0).trans (V_main_arg0 m c))
  · exact (RDat.FramePost.arr_in h c 1 rfl).trans ((A_eq m c 1).trans (V_main_arg1 m c))
  · exact ((h c).2 main_arg2 (Pipeline.mem_restRefs_of main_arg2 (by decide) (by decide))).trans (V_main_arg2 m c)
  · exact (RDat.FramePost.arr_in h c 3 rfl).trans ((A_eq m c 3).trans (V_main_arg3 m c))

/-- The program runs, its arguments end unchanged, every counter ends at zero. -/
theorem frame : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => args_kept m h.1 c, h.2⟩) (run_main m ρ)

end Cert.KernelIdeal.Hand
end
-- ==== Proof.RefOps.lean ====
module

public import proofs.«01_k».proof.Proof.Gen.ReferenceIdeal
public import Idealize.ShloMosaic.Lib.StableHlo.Run
public import Idealize.ShloMosaic.Lib.StableHlo.RunRead

@[expose] public section

noncomputable section

namespace Cert.ReferenceIdeal.Hand

open Cert.ReferenceIdeal Cert.ReferenceIdeal.Gen
open Idealize.ShloMosaic Idealize.ShloMosaic.StableHlo Idealize.ShloMosaic.TcCoe
open Idealize.SL Idealize.SL.Sem

variable {F : FTy → Type} [FloatOps F]

/-! ## The program's operations: the projection, eight levels, the two results -/

/-- The operations of one call of argmin. -/
def argminOps (arg0 : StableHlo.TRef sig ⟨S4096x8192, .f32⟩) (φ : fn_argmin.Bufs) : List (HloOp τ sig (Elt F)) :=
  [StableHlo.TRef.nullary φ.v0 (iotaInDim S4096x8192 32 1),
   StableHlo.TRef.nullary φ.cst (constant S_ .f32 0x7F800000#32),
   StableHlo.TRef.nullary φ.c (constantI S_ 32 0#32),
   StableHlo.TRef.quaternary arg0 φ.v0 φ.cst φ.c φ.v1_0 (fun x y u v j => (Host.argReduce reducer_argmin_f32_i32 x y u v reducesTo_S4096x8192_S4096_d1 h_S_ j).1),
   StableHlo.TRef.quaternary arg0 φ.v0 φ.cst φ.c φ.v1_1 (fun x y u v j => (Host.argReduce reducer_argmin_f32_i32 x y u v reducesTo_S4096x8192_S4096_d1 h_S_ j).2)]

/-- The operations of one call of take. -/
def takeOps (arg0 : StableHlo.TRef sig ⟨S8192x64, .f32⟩) (arg1 : StableHlo.TRef sig ⟨S4096, .i32⟩) (φ : fn_take.Bufs) : List (HloOp τ sig (Elt F)) :=
  [StableHlo.TRef.nullary φ.c (constantI S_ 32 0#32),
   StableHlo.TRef.unary φ.c φ.v0 (broadcastInDim S4096 ![] bcast_S_S4096),
   StableHlo.TRef.binary arg1 φ.v0 φ.v1 (cmpi .slt),
   StableHlo.TRef.nullary φ.c_0 (constantI S_ 32 8192#32),
   StableHlo.TRef.unary φ.c_0 φ.v2 (broadcastInDim S4096 ![] bcast_S_S4096),
   StableHlo.TRef.binary arg1 φ.v2 φ.v3 addi,
   StableHlo.TRef.ternary φ.v1 φ.v3 arg1 φ.call0.v0 select,
   StableHlo.TRef.unary φ.call0.v0 φ.v5 (broadcastInDim S4096x1 ![0] bcast_S4096_S4096x1_0),
   StableHlo.TRef.nullary φ.c_1 (constantI S1 32 8191#32),
   StableHlo.TRef.nullary φ.c_2 (constantI S_ 32 0#32),
   StableHlo.TRef.unary φ.c_2 φ.v6 (broadcastInDim S4096x1 ![] bcast_S_S4096x1),
   StableHlo.TRef.binary φ.v5 φ.v6 φ.v7 (cmpi .sge),
   StableHlo.TRef.unary φ.c_1 φ.v8 (broadcastInDim S1x1 ![1] bcast_S1_S1x1_1),
   StableHlo.TRef.unary φ.v8 φ.v9 (broadcastInDim S4096x1 ![0, 1] bcast_S1x1_S4096x1_0_1),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S4096x1_S4096_d1 h_S_),
   StableHlo.TRef.binary arg0 φ.v5 φ.v13 (fun x i => Host.gather gather_S8192x64_S4096x1_S4096x64_1_0_n_n_0_1_164 x i),
   StableHlo.TRef.unary φ.v12 φ.v14 (broadcastInDim S4096x64 ![0] bcast_S4096_S4096x64_0),
   StableHlo.TRef.nullary φ.cst (constant S_ .f32 0x7FC00000#32),
   StableHlo.TRef.unary φ.cst φ.v15 (broadcastInDim S4096x64 ![] bcast_S_S4096x64),
   StableHlo.TRef.ternary φ.v14 φ.v13 φ.v15 φ.v16 select]

/-- The projection and the zero that the sum starts at. -/
def preOps : List (HloOp τ sig (Elt F)) :=
  [StableHlo.binary main_arg0 main_arg1 main_v0 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
   StableHlo.unary main_arg2 main_v1 (broadcastInDim S1x64 ![1] bcast_S64_S1x64_1 : (⟨S64, .f32⟩ : BufTy).Contents (Elt F) → (⟨S1x64, .f32⟩ : BufTy).Contents (Elt F)),
   StableHlo.unary main_v1 main_v2 (broadcastInDim S4096x64 ![0, 1] bcast_S1x64_S4096x64_0_1 : (⟨S1x64, .f32⟩ : BufTy).Contents (Elt F) → (⟨S4096x64, .f32⟩ : BufTy).Contents (Elt F)),
   StableHlo.binary main_v0 main_v2 main_v3 (addf : (⟨S4096x64, .f32⟩ : BufTy).Contents (Elt F) → (⟨S4096x64, .f32⟩ : BufTy).Contents (Elt F) → (⟨S4096x64, .f32⟩ : BufTy).Contents (Elt F)),
   StableHlo.nullary main_cst (constant S_ .f32 0x00000000#32),
   StableHlo.unary main_cst main_v4 (broadcastInDim S4096x64 ![] bcast_S_S4096x64 : (⟨S_, .f32⟩ : BufTy).Contents (Elt F) → (⟨S4096x64, .f32⟩ : BufTy).Contents (Elt F))]

/-- The codebook of level 0. -/
def cbOps0 : List (HloOp τ sig (Elt F)) :=
  [StableHlo.unary main_arg3 main_v5 ((extractStridedSlice S1x8192x64 ![0, 0, 0] · slices_S8x8192x64_S1x8192x64_0_0_0) : (⟨S8x8192x64, .f32⟩ : BufTy).Contents (Elt F) → (⟨S1x8192x64, .f32⟩ : BufTy).Contents (Elt F)),
   StableHlo.reshape main_v5 main_v6 (rfl : (.f32 : EltTy) = .f32) shapeCasts_S1x8192x64_S8192x64]

/-- The squared norms of the residual at level 0. -/
def normOps0 : List (HloOp τ sig (Elt F)) :=
  [StableHlo.binary main_v3 main_v3 main_v7 (mulf : (⟨S4096x64, .f32⟩ : BufTy).Contents (Elt F) → (⟨S4096x64, .f32⟩ : BufTy).Contents (Elt F) → (⟨S4096x64, .f32⟩ : BufTy).Contents (Elt F)),
   StableHlo.nullary main_cst_0 (constant S_ .f32 0x00000000#32),
   StableHlo.binary main_v7 main_cst_0 main_v8 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v8 main_v9 (broadcastInDim S4096x1 ![0] bcast_S4096_S4096x1_0 : (⟨S4096, .f32⟩ : BufTy).Contents (Elt F) → (⟨S4096x1, .f32⟩ : BufTy).Contents (Elt F))]

/-- The distances at level 0. -/
def distOps0 : List (HloOp τ sig (Elt F)) :=
  [StableHlo.binary main_v6 main_v6 main_v10 (mulf : (⟨S8192x64, .f32⟩ : BufTy).Contents (Elt F) → (⟨S8192x64, .f32⟩ : BufTy).Contents (Elt F) → (⟨S8192x64, .f32⟩ : BufTy).Contents (Elt F)),
   StableHlo.nullary main_cst_1 (constant S_ .f32 0x00000000#32),
   StableHlo.binary main_v10 main_cst_1 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v11 main_v12 (broadcastInDim S1x8192 ![1] bcast_S8192_S1x8192_1 : (⟨S8192, .f32⟩ : BufTy).Contents (Elt F) → (⟨S1x8192, .f32⟩ : BufTy).Contents (Elt F)),
   StableHlo.unary main_v9 main_v13 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v12 main_v14 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v13 main_v14 main_v15 (addf : (⟨S4096x8192, .f32⟩ : BufTy).Contents (Elt F) → (⟨S4096x8192, .f32⟩ : BufTy).Contents (Elt F) → (⟨S4096x8192, .f32⟩ : BufTy).Contents (Elt F)),
   StableHlo.unary main_v6 main_v16 ((transpose S64x8192 [1, 0] · transposes_S8192x64_S64x8192_1_0) : (⟨S8192x64, .f32⟩ : BufTy).Contents (Elt F) → (⟨S64x8192, .f32⟩ : BufTy).Contents (Elt F)),
   StableHlo.binary main_v3 main_v16 main_v17 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_2 (constant S_ .f32 0x40000000#32),
   StableHlo.unary main_cst_2 main_v18 (broadcastInDim S4096x8192 ![] bcast_S_S4096x8192 : (⟨S_, .f32⟩ : BufTy).Contents (Elt F) → (⟨S4096x8192, .f32⟩ : BufTy).Contents (Elt F)),
   StableHlo.binary main_v18 main_v17 main_v19 (mulf : (⟨S4096x8192, .f32⟩ : BufTy).Contents (Elt F) → (⟨S4096x8192, .f32⟩ : BufTy).Contents (Elt F) → (⟨S4096x8192, .f32⟩ : BufTy).Contents (Elt F)),
   StableHlo.binary main_v15 main_v19 main_v20 (subf : (⟨S4096x8192, .f32⟩ : BufTy).Contents (Elt F) → (⟨S4096x8192, .f32⟩ : BufTy).Contents (Elt F) → (⟨S4096x8192, .f32⟩ : BufTy).Contents (Elt F)),
   StableHlo.nullary main_cst_3 (constant S_ .f32 0x2B8CBCCC#32),
   StableHlo.unary main_cst_3 main_v21 (broadcastInDim S4096x8192 ![] bcast_S_S4096x8192 : (⟨S_, .f32⟩ : BufTy).Contents (Elt F) → (⟨S4096x8192, .f32⟩ : BufTy).Contents (Elt F)),
   StableHlo.binary main_v20 main_v21 main_v22 (maximumf : (⟨S4096x8192, .f32⟩ : BufTy).Contents (Elt F) → (⟨S4096x8192, .f32⟩ : BufTy).Contents (Elt F) → (⟨S4096x8192, .f32⟩ : BufTy).Contents (Elt F)),
   StableHlo.unary main_v22 main_v23 (Host.sqrt : (⟨S4096x8192, .f32⟩ : BufTy).Contents (Elt F) → (⟨S4096x8192, .f32⟩ : BufTy).Contents (Elt F)),
   StableHlo.unary main_v23 main_v24 (Host.negf : (⟨S4096x8192, .f32⟩ : BufTy).Contents (Elt F) → (⟨S4096x8192, .f32⟩ : BufTy).Contents (Elt F))]

/-- The new sum and the new residual at level 0. -/
def updOps0 : List (HloOp τ sig (Elt F)) :=
  [StableHlo.binary main_v4 main_v26 main_v27 (addf : (⟨S4096x64, .f32⟩ : BufTy).Contents (Elt F) → (⟨S4096x64, .f32⟩ : BufTy).Contents (Elt F) → (⟨S4096x64, .f32⟩ : BufTy).Contents (Elt F)),
   StableHlo.binary main_v3 main_v26 main_v28 (subf : (⟨S4096x64, .f32⟩ : BufTy).Contents (Elt F) → (⟨S4096x64, .f32⟩ : BufTy).Contents (Elt F) → (⟨S4096x64, .f32⟩ : BufTy).Contents (Elt F))]

/-- The operations of level 0. -/
def lvl0 : List (HloOp τ sig (Elt F)) := cbOps0 ++ (normOps0 ++ (distOps0 ++ (argminOps (.of main_v23) main_call0 ++ (takeOps (.of main_v6) (.of main_v25) main_call1 ++ updOps0))))

/-- The codebook of level 1. -/
def cbOps1 : List (HloOp τ sig (Elt F)) :=
  [StableHlo.unary main_arg3 main_v29 ((extractStridedSlice S1x8192x64 ![1, 0, 0] · slices_S8x8192x64_S1x8192x64_1_0_0) : (⟨S8x8192x64, .f32⟩ : BufTy).Contents (Elt F) → (⟨S1x8192x64, .f32⟩ : BufTy).Contents (Elt F)),
   StableHlo.reshape main_v29 main_v30 (rfl : (.f32 : EltTy) = .f32) shapeCasts_S1x8192x64_S8192x64]

/-- The squared norms of the residual at level 1. -/
def normOps1 : List (HloOp τ sig (Elt F)) :=
  [StableHlo.binary main_v28 main_v28 main_v31 (mulf : (⟨S4096x64, .f32⟩ : BufTy).Contents (Elt F) → (⟨S4096x64, .f32⟩ : BufTy).Contents (Elt F) → (⟨S4096x64, .f32⟩ : BufTy).Contents (Elt F)),
   StableHlo.nullary main_cst_4 (constant S_ .f32 0x00000000#32),
   StableHlo.binary main_v31 main_cst_4 main_v32 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v32 main_v33 (broadcastInDim S4096x1 ![0] bcast_S4096_S4096x1_0 : (⟨S4096, .f32⟩ : BufTy).Contents (Elt F) → (⟨S4096x1, .f32⟩ : BufTy).Contents (Elt F))]

/-- The distances at level 1. -/
def distOps1 : List (HloOp τ sig (Elt F)) :=
  [StableHlo.binary main_v30 main_v30 main_v34 (mulf : (⟨S8192x64, .f32⟩ : BufTy).Contents (Elt F) → (⟨S8192x64, .f32⟩ : BufTy).Contents (Elt F) → (⟨S8192x64, .f32⟩ : BufTy).Contents (Elt F)),
   StableHlo.nullary main_cst_5 (constant S_ .f32 0x00000000#32),
   StableHlo.binary main_v34 main_cst_5 main_v35 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v35 main_v36 (broadcastInDim S1x8192 ![1] bcast_S8192_S1x8192_1 : (⟨S8192, .f32⟩ : BufTy).Contents (Elt F) → (⟨S1x8192, .f32⟩ : BufTy).Contents (Elt F)),
   StableHlo.unary main_v33 main_v37 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v36 main_v38 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v37 main_v38 main_v39 (addf : (⟨S4096x8192, .f32⟩ : BufTy).Contents (Elt F) → (⟨S4096x8192, .f32⟩ : BufTy).Contents (Elt F) → (⟨S4096x8192, .f32⟩ : BufTy).Contents (Elt F)),
   StableHlo.unary main_v30 main_v40 ((transpose S64x8192 [1, 0] · transposes_S8192x64_S64x8192_1_0) : (⟨S8192x64, .f32⟩ : BufTy).Contents (Elt F) → (⟨S64x8192, .f32⟩ : BufTy).Contents (Elt F)),
   StableHlo.binary main_v28 main_v40 main_v41 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_6 (constant S_ .f32 0x40000000#32),
   StableHlo.unary main_cst_6 main_v42 (broadcastInDim S4096x8192 ![] bcast_S_S4096x8192 : (⟨S_, .f32⟩ : BufTy).Contents (Elt F) → (⟨S4096x8192, .f32⟩ : BufTy).Contents (Elt F)),
   StableHlo.binary main_v42 main_v41 main_v43 (mulf : (⟨S4096x8192, .f32⟩ : BufTy).Contents (Elt F) → (⟨S4096x8192, .f32⟩ : BufTy).Contents (Elt F) → (⟨S4096x8192, .f32⟩ : BufTy).Contents (Elt F)),
   StableHlo.binary main_v39 main_v43 main_v44 (subf : (⟨S4096x8192, .f32⟩ : BufTy).Contents (Elt F) → (⟨S4096x8192, .f32⟩ : BufTy).Contents (Elt F) → (⟨S4096x8192, .f32⟩ : BufTy).Contents (Elt F)),
   StableHlo.nullary main_cst_7 (constant S_ .f32 0x2B8CBCCC#32),
   StableHlo.unary main_cst_7 main_v45 (broadcastInDim S4096x8192 ![] bcast_S_S4096x8192 : (⟨S_, .f32⟩ : BufTy).Contents (Elt F) → (⟨S4096x8192, .f32⟩ : BufTy).Contents (Elt F)),
   StableHlo.binary main_v44 main_v45 main_v46 (maximumf : (⟨S4096x8192, .f32⟩ : BufTy).Contents (Elt F) → (⟨S4096x8192, .f32⟩ : BufTy).Contents (Elt F) → (⟨S4096x8192, .f32⟩ : BufTy).Contents (Elt F)),
   StableHlo.unary main_v46 main_v47 (Host.sqrt : (⟨S4096x8192, .f32⟩ : BufTy).Contents (Elt F) → (⟨S4096x8192, .f32⟩ : BufTy).Contents (Elt F)),
   StableHlo.unary main_v47 main_v48 (Host.negf : (⟨S4096x8192, .f32⟩ : BufTy).Contents (Elt F) → (⟨S4096x8192, .f32⟩ : BufTy).Contents (Elt F))]

/-- The new sum and the new residual at level 1. -/
def updOps1 : List (HloOp τ sig (Elt F)) :=
  [StableHlo.binary main_v27 main_v50 main_v51 (addf : (⟨S4096x64, .f32⟩ : BufTy).Contents (Elt F) → (⟨S4096x64, .f32⟩ : BufTy).Contents (Elt F) → (⟨S4096x64, .f32⟩ : BufTy).Contents (Elt F)),
   StableHlo.binary main_v28 main_v50 main_v52 (subf : (⟨S4096x64, .f32⟩ : BufTy).Contents (Elt F) → (⟨S4096x64, .f32⟩ : BufTy).Contents (Elt F) → (⟨S4096x64, .f32⟩ : BufTy).Contents (Elt F))]

/-- The operations of level 1. -/
def lvl1 : List (HloOp τ sig (Elt F)) := cbOps1 ++ (normOps1 ++ (distOps1 ++ (argminOps (.of main_v47) main_call2 ++ (takeOps (.of main_v30) (.of main_v49) main_call3 ++ updOps1))))

/-- The codebook of level 2. -/
def cbOps2 : List (HloOp τ sig (Elt F)) :=
  [StableHlo.unary main_arg3 main_v53 ((extractStridedSlice S1x8192x64 ![2, 0, 0] · slices_S8x8192x64_S1x8192x64_2_0_0) : (⟨S8x8192x64, .f32⟩ : BufTy).Contents (Elt F) → (⟨S1x8192x64, .f32⟩ : BufTy).Contents (Elt F)),
   StableHlo.reshape main_v53 main_v54 (rfl : (.f32 : EltTy) = .f32) shapeCasts_S1x8192x64_S8192x64]

/-- The squared norms of the residual at level 2. -/
def normOps2 : List (HloOp τ sig (Elt F)) :=
  [StableHlo.binary main_v52 main_v52 main_v55 (mulf : (⟨S4096x64, .f32⟩ : BufTy).Contents (Elt F) → (⟨S4096x64, .f32⟩ : BufTy).Contents (Elt F) → (⟨S4096x64, .f32⟩ : BufTy).Contents (Elt F)),
   StableHlo.nullary main_cst_8 (constant S_ .f32 0x00000000#32),
   StableHlo.binary main_v55 main_cst_8 main_v56 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v56 main_v57 (broadcastInDim S4096x1 ![0] bcast_S4096_S4096x1_0 : (⟨S4096, .f32⟩ : BufTy).Contents (Elt F) → (⟨S4096x1, .f32⟩ : BufTy).Contents (Elt F))]

/-- The distances at level 2. -/
def distOps2 : List (HloOp τ sig (Elt F)) :=
  [StableHlo.binary main_v54 main_v54 main_v58 (mulf : (⟨S8192x64, .f32⟩ : BufTy).Contents (Elt F) → (⟨S8192x64, .f32⟩ : BufTy).Contents (Elt F) → (⟨S8192x64, .f32⟩ : BufTy).Contents (Elt F)),
   StableHlo.nullary main_cst_9 (constant S_ .f32 0x00000000#32),
   StableHlo.binary main_v58 main_cst_9 main_v59 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v59 main_v60 (broadcastInDim S1x8192 ![1] bcast_S8192_S1x8192_1 : (⟨S8192, .f32⟩ : BufTy).Contents (Elt F) → (⟨S1x8192, .f32⟩ : BufTy).Contents (Elt F)),
   StableHlo.unary main_v57 main_v61 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v60 main_v62 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v61 main_v62 main_v63 (addf : (⟨S4096x8192, .f32⟩ : BufTy).Contents (Elt F) → (⟨S4096x8192, .f32⟩ : BufTy).Contents (Elt F) → (⟨S4096x8192, .f32⟩ : BufTy).Contents (Elt F)),
   StableHlo.unary main_v54 main_v64 ((transpose S64x8192 [1, 0] · transposes_S8192x64_S64x8192_1_0) : (⟨S8192x64, .f32⟩ : BufTy).Contents (Elt F) → (⟨S64x8192, .f32⟩ : BufTy).Contents (Elt F)),
   StableHlo.binary main_v52 main_v64 main_v65 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_10 (constant S_ .f32 0x40000000#32),
   StableHlo.unary main_cst_10 main_v66 (broadcastInDim S4096x8192 ![] bcast_S_S4096x8192 : (⟨S_, .f32⟩ : BufTy).Contents (Elt F) → (⟨S4096x8192, .f32⟩ : BufTy).Contents (Elt F)),
   StableHlo.binary main_v66 main_v65 main_v67 (mulf : (⟨S4096x8192, .f32⟩ : BufTy).Contents (Elt F) → (⟨S4096x8192, .f32⟩ : BufTy).Contents (Elt F) → (⟨S4096x8192, .f32⟩ : BufTy).Contents (Elt F)),
   StableHlo.binary main_v63 main_v67 main_v68 (subf : (⟨S4096x8192, .f32⟩ : BufTy).Contents (Elt F) → (⟨S4096x8192, .f32⟩ : BufTy).Contents (Elt F) → (⟨S4096x8192, .f32⟩ : BufTy).Contents (Elt F)),
   StableHlo.nullary main_cst_11 (constant S_ .f32 0x2B8CBCCC#32),
   StableHlo.unary main_cst_11 main_v69 (broadcastInDim S4096x8192 ![] bcast_S_S4096x8192 : (⟨S_, .f32⟩ : BufTy).Contents (Elt F) → (⟨S4096x8192, .f32⟩ : BufTy).Contents (Elt F)),
   StableHlo.binary main_v68 main_v69 main_v70 (maximumf : (⟨S4096x8192, .f32⟩ : BufTy).Contents (Elt F) → (⟨S4096x8192, .f32⟩ : BufTy).Contents (Elt F) → (⟨S4096x8192, .f32⟩ : BufTy).Contents (Elt F)),
   StableHlo.unary main_v70 main_v71 (Host.sqrt : (⟨S4096x8192, .f32⟩ : BufTy).Contents (Elt F) → (⟨S4096x8192, .f32⟩ : BufTy).Contents (Elt F)),
   StableHlo.unary main_v71 main_v72 (Host.negf : (⟨S4096x8192, .f32⟩ : BufTy).Contents (Elt F) → (⟨S4096x8192, .f32⟩ : BufTy).Contents (Elt F))]

/-- The new sum and the new residual at level 2. -/
def updOps2 : List (HloOp τ sig (Elt F)) :=
  [StableHlo.binary main_v51 main_v74 main_v75 (addf : (⟨S4096x64, .f32⟩ : BufTy).Contents (Elt F) → (⟨S4096x64, .f32⟩ : BufTy).Contents (Elt F) → (⟨S4096x64, .f32⟩ : BufTy).Contents (Elt F)),
   StableHlo.binary main_v52 main_v74 main_v76 (subf : (⟨S4096x64, .f32⟩ : BufTy).Contents (Elt F) → (⟨S4096x64, .f32⟩ : BufTy).Contents (Elt F) → (⟨S4096x64, .f32⟩ : BufTy).Contents (Elt F))]

/-- The operations of level 2. -/
def lvl2 : List (HloOp τ sig (Elt F)) := cbOps2 ++ (normOps2 ++ (distOps2 ++ (argminOps (.of main_v71) main_call4 ++ (takeOps (.of main_v54) (.of main_v73) main_call5 ++ updOps2))))

/-- The codebook of level 3. -/
def cbOps3 : List (HloOp τ sig (Elt F)) :=
  [StableHlo.unary main_arg3 main_v77 ((extractStridedSlice S1x8192x64 ![3, 0, 0] · slices_S8x8192x64_S1x8192x64_3_0_0) : (⟨S8x8192x64, .f32⟩ : BufTy).Contents (Elt F) → (⟨S1x8192x64, .f32⟩ : BufTy).Contents (Elt F)),
   StableHlo.reshape main_v77 main_v78 (rfl : (.f32 : EltTy) = .f32) shapeCasts_S1x8192x64_S8192x64]

/-- The squared norms of the residual at level 3. -/
def normOps3 : List (HloOp τ sig (Elt F)) :=
  [StableHlo.binary main_v76 main_v76 main_v79 (mulf : (⟨S4096x64, .f32⟩ : BufTy).Contents (Elt F) → (⟨S4096x64, .f32⟩ : BufTy).Contents (Elt F) → (⟨S4096x64, .f32⟩ : BufTy).Contents (Elt F)),
   StableHlo.nullary main_cst_12 (constant S_ .f32 0x00000000#32),
   StableHlo.binary main_v79 main_cst_12 main_v80 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v80 main_v81 (broadcastInDim S4096x1 ![0] bcast_S4096_S4096x1_0 : (⟨S4096, .f32⟩ : BufTy).Contents (Elt F) → (⟨S4096x1, .f32⟩ : BufTy).Contents (Elt F))]

/-- The distances at level 3. -/
def distOps3 : List (HloOp τ sig (Elt F)) :=
  [StableHlo.binary main_v78 main_v78 main_v82 (mulf : (⟨S8192x64, .f32⟩ : BufTy).Contents (Elt F) → (⟨S8192x64, .f32⟩ : BufTy).Contents (Elt F) → (⟨S8192x64, .f32⟩ : BufTy).Contents (Elt F)),
   StableHlo.nullary main_cst_13 (constant S_ .f32 0x00000000#32),
   StableHlo.binary main_v82 main_cst_13 main_v83 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v83 main_v84 (broadcastInDim S1x8192 ![1] bcast_S8192_S1x8192_1 : (⟨S8192, .f32⟩ : BufTy).Contents (Elt F) → (⟨S1x8192, .f32⟩ : BufTy).Contents (Elt F)),
   StableHlo.unary main_v81 main_v85 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v84 main_v86 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v85 main_v86 main_v87 (addf : (⟨S4096x8192, .f32⟩ : BufTy).Contents (Elt F) → (⟨S4096x8192, .f32⟩ : BufTy).Contents (Elt F) → (⟨S4096x8192, .f32⟩ : BufTy).Contents (Elt F)),
   StableHlo.unary main_v78 main_v88 ((transpose S64x8192 [1, 0] · transposes_S8192x64_S64x8192_1_0) : (⟨S8192x64, .f32⟩ : BufTy).Contents (Elt F) → (⟨S64x8192, .f32⟩ : BufTy).Contents (Elt F)),
   StableHlo.binary main_v76 main_v88 main_v89 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_14 (constant S_ .f32 0x40000000#32),
   StableHlo.unary main_cst_14 main_v90 (broadcastInDim S4096x8192 ![] bcast_S_S4096x8192 : (⟨S_, .f32⟩ : BufTy).Contents (Elt F) → (⟨S4096x8192, .f32⟩ : BufTy).Contents (Elt F)),
   StableHlo.binary main_v90 main_v89 main_v91 (mulf : (⟨S4096x8192, .f32⟩ : BufTy).Contents (Elt F) → (⟨S4096x8192, .f32⟩ : BufTy).Contents (Elt F) → (⟨S4096x8192, .f32⟩ : BufTy).Contents (Elt F)),
   StableHlo.binary main_v87 main_v91 main_v92 (subf : (⟨S4096x8192, .f32⟩ : BufTy).Contents (Elt F) → (⟨S4096x8192, .f32⟩ : BufTy).Contents (Elt F) → (⟨S4096x8192, .f32⟩ : BufTy).Contents (Elt F)),
   StableHlo.nullary main_cst_15 (constant S_ .f32 0x2B8CBCCC#32),
   StableHlo.unary main_cst_15 main_v93 (broadcastInDim S4096x8192 ![] bcast_S_S4096x8192 : (⟨S_, .f32⟩ : BufTy).Contents (Elt F) → (⟨S4096x8192, .f32⟩ : BufTy).Contents (Elt F)),
   StableHlo.binary main_v92 main_v93 main_v94 (maximumf : (⟨S4096x8192, .f32⟩ : BufTy).Contents (Elt F) → (⟨S4096x8192, .f32⟩ : BufTy).Contents (Elt F) → (⟨S4096x8192, .f32⟩ : BufTy).Contents (Elt F)),
   StableHlo.unary main_v94 main_v95 (Host.sqrt : (⟨S4096x8192, .f32⟩ : BufTy).Contents (Elt F) → (⟨S4096x8192, .f32⟩ : BufTy).Contents (Elt F)),
   StableHlo.unary main_v95 main_v96 (Host.negf : (⟨S4096x8192, .f32⟩ : BufTy).Contents (Elt F) → (⟨S4096x8192, .f32⟩ : BufTy).Contents (Elt F))]

/-- The new sum and the new residual at level 3. -/
def updOps3 : List (HloOp τ sig (Elt F)) :=
  [StableHlo.binary main_v75 main_v98 main_v99 (addf : (⟨S4096x64, .f32⟩ : BufTy).Contents (Elt F) → (⟨S4096x64, .f32⟩ : BufTy).Contents (Elt F) → (⟨S4096x64, .f32⟩ : BufTy).Contents (Elt F)),
   StableHlo.binary main_v76 main_v98 main_v100 (subf : (⟨S4096x64, .f32⟩ : BufTy).Contents (Elt F) → (⟨S4096x64, .f32⟩ : BufTy).Contents (Elt F) → (⟨S4096x64, .f32⟩ : BufTy).Contents (Elt F))]

/-- The operations of level 3. -/
def lvl3 : List (HloOp τ sig (Elt F)) := cbOps3 ++ (normOps3 ++ (distOps3 ++ (argminOps (.of main_v95) main_call6 ++ (takeOps (.of main_v78) (.of main_v97) main_call7 ++ updOps3))))

/-- The codebook of level 4. -/
def cbOps4 : List (HloOp τ sig (Elt F)) :=
  [StableHlo.unary main_arg3 main_v101 ((extractStridedSlice S1x8192x64 ![4, 0, 0] · slices_S8x8192x64_S1x8192x64_4_0_0) : (⟨S8x8192x64, .f32⟩ : BufTy).Contents (Elt F) → (⟨S1x8192x64, .f32⟩ : BufTy).Contents (Elt F)),
   StableHlo.reshape main_v101 main_v102 (rfl : (.f32 : EltTy) = .f32) shapeCasts_S1x8192x64_S8192x64]

/-- The squared norms of the residual at level 4. -/
def normOps4 : List (HloOp τ sig (Elt F)) :=
  [StableHlo.binary main_v100 main_v100 main_v103 (mulf : (⟨S4096x64, .f32⟩ : BufTy).Contents (Elt F) → (⟨S4096x64, .f32⟩ : BufTy).Contents (Elt F) → (⟨S4096x64, .f32⟩ : BufTy).Contents (Elt F)),
   StableHlo.nullary main_cst_16 (constant S_ .f32 0x00000000#32),
   StableHlo.binary main_v103 main_cst_16 main_v104 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v104 main_v105 (broadcastInDim S4096x1 ![0] bcast_S4096_S4096x1_0 : (⟨S4096, .f32⟩ : BufTy).Contents (Elt F) → (⟨S4096x1, .f32⟩ : BufTy).Contents (Elt F))]

/-- The distances at level 4. -/
def distOps4 : List (HloOp τ sig (Elt F)) :=
  [StableHlo.binary main_v102 main_v102 main_v106 (mulf : (⟨S8192x64, .f32⟩ : BufTy).Contents (Elt F) → (⟨S8192x64, .f32⟩ : BufTy).Contents (Elt F) → (⟨S8192x64, .f32⟩ : BufTy).Contents (Elt F)),
   StableHlo.nullary main_cst_17 (constant S_ .f32 0x00000000#32),
   StableHlo.binary main_v106 main_cst_17 main_v107 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v107 main_v108 (broadcastInDim S1x8192 ![1] bcast_S8192_S1x8192_1 : (⟨S8192, .f32⟩ : BufTy).Contents (Elt F) → (⟨S1x8192, .f32⟩ : BufTy).Contents (Elt F)),
   StableHlo.unary main_v105 main_v109 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v108 main_v110 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v109 main_v110 main_v111 (addf : (⟨S4096x8192, .f32⟩ : BufTy).Contents (Elt F) → (⟨S4096x8192, .f32⟩ : BufTy).Contents (Elt F) → (⟨S4096x8192, .f32⟩ : BufTy).Contents (Elt F)),
   StableHlo.unary main_v102 main_v112 ((transpose S64x8192 [1, 0] · transposes_S8192x64_S64x8192_1_0) : (⟨S8192x64, .f32⟩ : BufTy).Contents (Elt F) → (⟨S64x8192, .f32⟩ : BufTy).Contents (Elt F)),
   StableHlo.binary main_v100 main_v112 main_v113 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_18 (constant S_ .f32 0x40000000#32),
   StableHlo.unary main_cst_18 main_v114 (broadcastInDim S4096x8192 ![] bcast_S_S4096x8192 : (⟨S_, .f32⟩ : BufTy).Contents (Elt F) → (⟨S4096x8192, .f32⟩ : BufTy).Contents (Elt F)),
   StableHlo.binary main_v114 main_v113 main_v115 (mulf : (⟨S4096x8192, .f32⟩ : BufTy).Contents (Elt F) → (⟨S4096x8192, .f32⟩ : BufTy).Contents (Elt F) → (⟨S4096x8192, .f32⟩ : BufTy).Contents (Elt F)),
   StableHlo.binary main_v111 main_v115 main_v116 (subf : (⟨S4096x8192, .f32⟩ : BufTy).Contents (Elt F) → (⟨S4096x8192, .f32⟩ : BufTy).Contents (Elt F) → (⟨S4096x8192, .f32⟩ : BufTy).Contents (Elt F)),
   StableHlo.nullary main_cst_19 (constant S_ .f32 0x2B8CBCCC#32),
   StableHlo.unary main_cst_19 main_v117 (broadcastInDim S4096x8192 ![] bcast_S_S4096x8192 : (⟨S_, .f32⟩ : BufTy).Contents (Elt F) → (⟨S4096x8192, .f32⟩ : BufTy).Contents (Elt F)),
   StableHlo.binary main_v116 main_v117 main_v118 (maximumf : (⟨S4096x8192, .f32⟩ : BufTy).Contents (Elt F) → (⟨S4096x8192, .f32⟩ : BufTy).Contents (Elt F) → (⟨S4096x8192, .f32⟩ : BufTy).Contents (Elt F)),
   StableHlo.unary main_v118 main_v119 (Host.sqrt : (⟨S4096x8192, .f32⟩ : BufTy).Contents (Elt F) → (⟨S4096x8192, .f32⟩ : BufTy).Contents (Elt F)),
   StableHlo.unary main_v119 main_v120 (Host.negf : (⟨S4096x8192, .f32⟩ : BufTy).Contents (Elt F) → (⟨S4096x8192, .f32⟩ : BufTy).Contents (Elt F))]

/-- The new sum and the new residual at level 4. -/
def updOps4 : List (HloOp τ sig (Elt F)) :=
  [StableHlo.binary main_v99 main_v122 main_v123 (addf : (⟨S4096x64, .f32⟩ : BufTy).Contents (Elt F) → (⟨S4096x64, .f32⟩ : BufTy).Contents (Elt F) → (⟨S4096x64, .f32⟩ : BufTy).Contents (Elt F)),
   StableHlo.binary main_v100 main_v122 main_v124 (subf : (⟨S4096x64, .f32⟩ : BufTy).Contents (Elt F) → (⟨S4096x64, .f32⟩ : BufTy).Contents (Elt F) → (⟨S4096x64, .f32⟩ : BufTy).Contents (Elt F))]

/-- The operations of level 4. -/
def lvl4 : List (HloOp τ sig (Elt F)) := cbOps4 ++ (normOps4 ++ (distOps4 ++ (argminOps (.of main_v119) main_call8 ++ (takeOps (.of main_v102) (.of main_v121) main_call9 ++ updOps4))))

/-- The codebook of level 5. -/
def cbOps5 : List (HloOp τ sig (Elt F)) :=
  [StableHlo.unary main_arg3 main_v125 ((extractStridedSlice S1x8192x64 ![5, 0, 0] · slices_S8x8192x64_S1x8192x64_5_0_0) : (⟨S8x8192x64, .f32⟩ : BufTy).Contents (Elt F) → (⟨S1x8192x64, .f32⟩ : BufTy).Contents (Elt F)),
   StableHlo.reshape main_v125 main_v126 (rfl : (.f32 : EltTy) = .f32) shapeCasts_S1x8192x64_S8192x64]

/-- The squared norms of the residual at level 5. -/
def normOps5 : List (HloOp τ sig (Elt F)) :=
  [StableHlo.binary main_v124 main_v124 main_v127 (mulf : (⟨S4096x64, .f32⟩ : BufTy).Contents (Elt F) → (⟨S4096x64, .f32⟩ : BufTy).Contents (Elt F) → (⟨S4096x64, .f32⟩ : BufTy).Contents (Elt F)),
   StableHlo.nullary main_cst_20 (constant S_ .f32 0x00000000#32),
   StableHlo.binary main_v127 main_cst_20 main_v128 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v128 main_v129 (broadcastInDim S4096x1 ![0] bcast_S4096_S4096x1_0 : (⟨S4096, .f32⟩ : BufTy).Contents (Elt F) → (⟨S4096x1, .f32⟩ : BufTy).Contents (Elt F))]

/-- The distances at level 5. -/
def distOps5 : List (HloOp τ sig (Elt F)) :=
  [StableHlo.binary main_v126 main_v126 main_v130 (mulf : (⟨S8192x64, .f32⟩ : BufTy).Contents (Elt F) → (⟨S8192x64, .f32⟩ : BufTy).Contents (Elt F) → (⟨S8192x64, .f32⟩ : BufTy).Contents (Elt F)),
   StableHlo.nullary main_cst_21 (constant S_ .f32 0x00000000#32),
   StableHlo.binary main_v130 main_cst_21 main_v131 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v131 main_v132 (broadcastInDim S1x8192 ![1] bcast_S8192_S1x8192_1 : (⟨S8192, .f32⟩ : BufTy).Contents (Elt F) → (⟨S1x8192, .f32⟩ : BufTy).Contents (Elt F)),
   StableHlo.unary main_v129 main_v133 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v132 main_v134 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v133 main_v134 main_v135 (addf : (⟨S4096x8192, .f32⟩ : BufTy).Contents (Elt F) → (⟨S4096x8192, .f32⟩ : BufTy).Contents (Elt F) → (⟨S4096x8192, .f32⟩ : BufTy).Contents (Elt F)),
   StableHlo.unary main_v126 main_v136 ((transpose S64x8192 [1, 0] · transposes_S8192x64_S64x8192_1_0) : (⟨S8192x64, .f32⟩ : BufTy).Contents (Elt F) → (⟨S64x8192, .f32⟩ : BufTy).Contents (Elt F)),
   StableHlo.binary main_v124 main_v136 main_v137 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_22 (constant S_ .f32 0x40000000#32),
   StableHlo.unary main_cst_22 main_v138 (broadcastInDim S4096x8192 ![] bcast_S_S4096x8192 : (⟨S_, .f32⟩ : BufTy).Contents (Elt F) → (⟨S4096x8192, .f32⟩ : BufTy).Contents (Elt F)),
   StableHlo.binary main_v138 main_v137 main_v139 (mulf : (⟨S4096x8192, .f32⟩ : BufTy).Contents (Elt F) → (⟨S4096x8192, .f32⟩ : BufTy).Contents (Elt F) → (⟨S4096x8192, .f32⟩ : BufTy).Contents (Elt F)),
   StableHlo.binary main_v135 main_v139 main_v140 (subf : (⟨S4096x8192, .f32⟩ : BufTy).Contents (Elt F) → (⟨S4096x8192, .f32⟩ : BufTy).Contents (Elt F) → (⟨S4096x8192, .f32⟩ : BufTy).Contents (Elt F)),
   StableHlo.nullary main_cst_23 (constant S_ .f32 0x2B8CBCCC#32),
   StableHlo.unary main_cst_23 main_v141 (broadcastInDim S4096x8192 ![] bcast_S_S4096x8192 : (⟨S_, .f32⟩ : BufTy).Contents (Elt F) → (⟨S4096x8192, .f32⟩ : BufTy).Contents (Elt F)),
   StableHlo.binary main_v140 main_v141 main_v142 (maximumf : (⟨S4096x8192, .f32⟩ : BufTy).Contents (Elt F) → (⟨S4096x8192, .f32⟩ : BufTy).Contents (Elt F) → (⟨S4096x8192, .f32⟩ : BufTy).Contents (Elt F)),
   StableHlo.unary main_v142 main_v143 (Host.sqrt : (⟨S4096x8192, .f32⟩ : BufTy).Contents (Elt F) → (⟨S4096x8192, .f32⟩ : BufTy).Contents (Elt F)),
   StableHlo.unary main_v143 main_v144 (Host.negf : (⟨S4096x8192, .f32⟩ : BufTy).Contents (Elt F) → (⟨S4096x8192, .f32⟩ : BufTy).Contents (Elt F))]

/-- The new sum and the new residual at level 5. -/
def updOps5 : List (HloOp τ sig (Elt F)) :=
  [StableHlo.binary main_v123 main_v146 main_v147 (addf : (⟨S4096x64, .f32⟩ : BufTy).Contents (Elt F) → (⟨S4096x64, .f32⟩ : BufTy).Contents (Elt F) → (⟨S4096x64, .f32⟩ : BufTy).Contents (Elt F)),
   StableHlo.binary main_v124 main_v146 main_v148 (subf : (⟨S4096x64, .f32⟩ : BufTy).Contents (Elt F) → (⟨S4096x64, .f32⟩ : BufTy).Contents (Elt F) → (⟨S4096x64, .f32⟩ : BufTy).Contents (Elt F))]

/-- The operations of level 5. -/
def lvl5 : List (HloOp τ sig (Elt F)) := cbOps5 ++ (normOps5 ++ (distOps5 ++ (argminOps (.of main_v143) main_call10 ++ (takeOps (.of main_v126) (.of main_v145) main_call11 ++ updOps5))))

/-- The codebook of level 6. -/
def cbOps6 : List (HloOp τ sig (Elt F)) :=
  [StableHlo.unary main_arg3 main_v149 ((extractStridedSlice S1x8192x64 ![6, 0, 0] · slices_S8x8192x64_S1x8192x64_6_0_0) : (⟨S8x8192x64, .f32⟩ : BufTy).Contents (Elt F) → (⟨S1x8192x64, .f32⟩ : BufTy).Contents (Elt F)),
   StableHlo.reshape main_v149 main_v150 (rfl : (.f32 : EltTy) = .f32) shapeCasts_S1x8192x64_S8192x64]

/-- The squared norms of the residual at level 6. -/
def normOps6 : List (HloOp τ sig (Elt F)) :=
  [StableHlo.binary main_v148 main_v148 main_v151 (mulf : (⟨S4096x64, .f32⟩ : BufTy).Contents (Elt F) → (⟨S4096x64, .f32⟩ : BufTy).Contents (Elt F) → (⟨S4096x64, .f32⟩ : BufTy).Contents (Elt F)),
   StableHlo.nullary main_cst_24 (constant S_ .f32 0x00000000#32),
   StableHlo.binary main_v151 main_cst_24 main_v152 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v152 main_v153 (broadcastInDim S4096x1 ![0] bcast_S4096_S4096x1_0 : (⟨S4096, .f32⟩ : BufTy).Contents (Elt F) → (⟨S4096x1, .f32⟩ : BufTy).Contents (Elt F))]

/-- The distances at level 6. -/
def distOps6 : List (HloOp τ sig (Elt F)) :=
  [StableHlo.binary main_v150 main_v150 main_v154 (mulf : (⟨S8192x64, .f32⟩ : BufTy).Contents (Elt F) → (⟨S8192x64, .f32⟩ : BufTy).Contents (Elt F) → (⟨S8192x64, .f32⟩ : BufTy).Contents (Elt F)),
   StableHlo.nullary main_cst_25 (constant S_ .f32 0x00000000#32),
   StableHlo.binary main_v154 main_cst_25 main_v155 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v155 main_v156 (broadcastInDim S1x8192 ![1] bcast_S8192_S1x8192_1 : (⟨S8192, .f32⟩ : BufTy).Contents (Elt F) → (⟨S1x8192, .f32⟩ : BufTy).Contents (Elt F)),
   StableHlo.unary main_v153 main_v157 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v156 main_v158 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v157 main_v158 main_v159 (addf : (⟨S4096x8192, .f32⟩ : BufTy).Contents (Elt F) → (⟨S4096x8192, .f32⟩ : BufTy).Contents (Elt F) → (⟨S4096x8192, .f32⟩ : BufTy).Contents (Elt F)),
   StableHlo.unary main_v150 main_v160 ((transpose S64x8192 [1, 0] · transposes_S8192x64_S64x8192_1_0) : (⟨S8192x64, .f32⟩ : BufTy).Contents (Elt F) → (⟨S64x8192, .f32⟩ : BufTy).Contents (Elt F)),
   StableHlo.binary main_v148 main_v160 main_v161 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_26 (constant S_ .f32 0x40000000#32),
   StableHlo.unary main_cst_26 main_v162 (broadcastInDim S4096x8192 ![] bcast_S_S4096x8192 : (⟨S_, .f32⟩ : BufTy).Contents (Elt F) → (⟨S4096x8192, .f32⟩ : BufTy).Contents (Elt F)),
   StableHlo.binary main_v162 main_v161 main_v163 (mulf : (⟨S4096x8192, .f32⟩ : BufTy).Contents (Elt F) → (⟨S4096x8192, .f32⟩ : BufTy).Contents (Elt F) → (⟨S4096x8192, .f32⟩ : BufTy).Contents (Elt F)),
   StableHlo.binary main_v159 main_v163 main_v164 (subf : (⟨S4096x8192, .f32⟩ : BufTy).Contents (Elt F) → (⟨S4096x8192, .f32⟩ : BufTy).Contents (Elt F) → (⟨S4096x8192, .f32⟩ : BufTy).Contents (Elt F)),
   StableHlo.nullary main_cst_27 (constant S_ .f32 0x2B8CBCCC#32),
   StableHlo.unary main_cst_27 main_v165 (broadcastInDim S4096x8192 ![] bcast_S_S4096x8192 : (⟨S_, .f32⟩ : BufTy).Contents (Elt F) → (⟨S4096x8192, .f32⟩ : BufTy).Contents (Elt F)),
   StableHlo.binary main_v164 main_v165 main_v166 (maximumf : (⟨S4096x8192, .f32⟩ : BufTy).Contents (Elt F) → (⟨S4096x8192, .f32⟩ : BufTy).Contents (Elt F) → (⟨S4096x8192, .f32⟩ : BufTy).Contents (Elt F)),
   StableHlo.unary main_v166 main_v167 (Host.sqrt : (⟨S4096x8192, .f32⟩ : BufTy).Contents (Elt F) → (⟨S4096x8192, .f32⟩ : BufTy).Contents (Elt F)),
   StableHlo.unary main_v167 main_v168 (Host.negf : (⟨S4096x8192, .f32⟩ : BufTy).Contents (Elt F) → (⟨S4096x8192, .f32⟩ : BufTy).Contents (Elt F))]

/-- The new sum and the new residual at level 6. -/
def updOps6 : List (HloOp τ sig (Elt F)) :=
  [StableHlo.binary main_v147 main_v170 main_v171 (addf : (⟨S4096x64, .f32⟩ : BufTy).Contents (Elt F) → (⟨S4096x64, .f32⟩ : BufTy).Contents (Elt F) → (⟨S4096x64, .f32⟩ : BufTy).Contents (Elt F)),
   StableHlo.binary main_v148 main_v170 main_v172 (subf : (⟨S4096x64, .f32⟩ : BufTy).Contents (Elt F) → (⟨S4096x64, .f32⟩ : BufTy).Contents (Elt F) → (⟨S4096x64, .f32⟩ : BufTy).Contents (Elt F))]

/-- The operations of level 6. -/
def lvl6 : List (HloOp τ sig (Elt F)) := cbOps6 ++ (normOps6 ++ (distOps6 ++ (argminOps (.of main_v167) main_call12 ++ (takeOps (.of main_v150) (.of main_v169) main_call13 ++ updOps6))))

/-- The codebook of level 7. -/
def cbOps7 : List (HloOp τ sig (Elt F)) :=
  [StableHlo.unary main_arg3 main_v173 ((extractStridedSlice S1x8192x64 ![7, 0, 0] · slices_S8x8192x64_S1x8192x64_7_0_0) : (⟨S8x8192x64, .f32⟩ : BufTy).Contents (Elt F) → (⟨S1x8192x64, .f32⟩ : BufTy).Contents (Elt F)),
   StableHlo.reshape main_v173 main_v174 (rfl : (.f32 : EltTy) = .f32) shapeCasts_S1x8192x64_S8192x64]

/-- The squared norms of the residual at level 7. -/
def normOps7 : List (HloOp τ sig (Elt F)) :=
  [StableHlo.binary main_v172 main_v172 main_v175 (mulf : (⟨S4096x64, .f32⟩ : BufTy).Contents (Elt F) → (⟨S4096x64, .f32⟩ : BufTy).Contents (Elt F) → (⟨S4096x64, .f32⟩ : BufTy).Contents (Elt F)),
   StableHlo.nullary main_cst_28 (constant S_ .f32 0x00000000#32),
   StableHlo.binary main_v175 main_cst_28 main_v176 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
   StableHlo.unary main_v176 main_v177 (broadcastInDim S4096x1 ![0] bcast_S4096_S4096x1_0 : (⟨S4096, .f32⟩ : BufTy).Contents (Elt F) → (⟨S4096x1, .f32⟩ : BufTy).Contents (Elt F))]

/-- The distances at level 7. -/
def distOps7 : List (HloOp τ sig (Elt F)) :=
  [StableHlo.binary main_v174 main_v174 main_v178 (mulf : (⟨S8192x64, .f32⟩ : BufTy).Contents (Elt F) → (⟨S8192x64, .f32⟩ : BufTy).Contents (Elt F) → (⟨S8192x64, .f32⟩ : BufTy).Contents (Elt F)),
   StableHlo.nullary main_cst_29 (constant S_ .f32 0x00000000#32),
   StableHlo.binary main_v178 main_cst_29 main_v179 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
   StableHlo.unary main_v179 main_v180 (broadcastInDim S1x8192 ![1] bcast_S8192_S1x8192_1 : (⟨S8192, .f32⟩ : BufTy).Contents (Elt F) → (⟨S1x8192, .f32⟩ : BufTy).Contents (Elt F)),
   StableHlo.unary main_v177 main_v181 (broadcastInDim S4096x8192 ![0, 1] bcast_S4096x1_S4096x8192_0_1 : (⟨S4096x1, .f32⟩ : BufTy).Contents (Elt F) → (⟨S4096x8192, .f32⟩ : BufTy).Contents (Elt F)),
   StableHlo.unary main_v180 main_v182 (broadcastInDim S4096x8192 ![0, 1] bcast_S1x8192_S4096x8192_0_1 : (⟨S1x8192, .f32⟩ : BufTy).Contents (Elt F) → (⟨S4096x8192, .f32⟩ : BufTy).Contents (Elt F)),
   StableHlo.binary main_v181 main_v182 main_v183 (addf : (⟨S4096x8192, .f32⟩ : BufTy).Contents (Elt F) → (⟨S4096x8192, .f32⟩ : BufTy).Contents (Elt F) → (⟨S4096x8192, .f32⟩ : BufTy).Contents (Elt F)),
   StableHlo.unary main_v174 main_v184 ((transpose S64x8192 [1, 0] · transposes_S8192x64_S64x8192_1_0) : (⟨S8192x64, .f32⟩ : BufTy).Contents (Elt F) → (⟨S64x8192, .f32⟩ : BufTy).Contents (Elt F)),
   StableHlo.binary main_v172 main_v184 main_v185 ((fun l r => Host.dotGeneral dot_S4096x64_S64x8192_S4096x8192_1_0_0_1_n_n none l r) : (⟨S4096x64, .f32⟩ : BufTy).Contents (Elt F) → (⟨S64x8192, .f32⟩ : BufTy).Contents (Elt F) → (⟨S4096x8192, .f32⟩ : BufTy).Contents (Elt F)),
   StableHlo.nullary main_cst_30 (constant S_ .f32 0x40000000#32),
   StableHlo.unary main_cst_30 main_v186 (broadcastInDim S4096x8192 ![] bcast_S_S4096x8192 : (⟨S_, .f32⟩ : BufTy).Contents (Elt F) → (⟨S4096x8192, .f32⟩ : BufTy).Contents (Elt F)),
   StableHlo.binary main_v186 main_v185 main_v187 (mulf : (⟨S4096x8192, .f32⟩ : BufTy).Contents (Elt F) → (⟨S4096x8192, .f32⟩ : BufTy).Contents (Elt F) → (⟨S4096x8192, .f32⟩ : BufTy).Contents (Elt F)),
   StableHlo.binary main_v183 main_v187 main_v188 (subf : (⟨S4096x8192, .f32⟩ : BufTy).Contents (Elt F) → (⟨S4096x8192, .f32⟩ : BufTy).Contents (Elt F) → (⟨S4096x8192, .f32⟩ : BufTy).Contents (Elt F)),
   StableHlo.nullary main_cst_31 (constant S_ .f32 0x2B8CBCCC#32),
   StableHlo.unary main_cst_31 main_v189 (broadcastInDim S4096x8192 ![] bcast_S_S4096x8192 : (⟨S_, .f32⟩ : BufTy).Contents (Elt F) → (⟨S4096x8192, .f32⟩ : BufTy).Contents (Elt F)),
   StableHlo.binary main_v188 main_v189 main_v190 (maximumf : (⟨S4096x8192, .f32⟩ : BufTy).Contents (Elt F) → (⟨S4096x8192, .f32⟩ : BufTy).Contents (Elt F) → (⟨S4096x8192, .f32⟩ : BufTy).Contents (Elt F)),
   StableHlo.unary main_v190 main_v191 (Host.sqrt : (⟨S4096x8192, .f32⟩ : BufTy).Contents (Elt F) → (⟨S4096x8192, .f32⟩ : BufTy).Contents (Elt F)),
   StableHlo.unary main_v191 main_v192 (Host.negf : (⟨S4096x8192, .f32⟩ : BufTy).Contents (Elt F) → (⟨S4096x8192, .f32⟩ : BufTy).Contents (Elt F))]

/-- The new sum and the new residual at level 7. -/
def updOps7 : List (HloOp τ sig (Elt F)) :=
  [StableHlo.binary main_v171 main_v194 main_v195 (addf : (⟨S4096x64, .f32⟩ : BufTy).Contents (Elt F) → (⟨S4096x64, .f32⟩ : BufTy).Contents (Elt F) → (⟨S4096x64, .f32⟩ : BufTy).Contents (Elt F)),
   StableHlo.binary main_v172 main_v194 main_v196 (subf : (⟨S4096x64, .f32⟩ : BufTy).Contents (Elt F) → (⟨S4096x64, .f32⟩ : BufTy).Contents (Elt F) → (⟨S4096x64, .f32⟩ : BufTy).Contents (Elt F))]

/-- The operations of level 7. -/
def lvl7 : List (HloOp τ sig (Elt F)) := cbOps7 ++ (normOps7 ++ (distOps7 ++ (argminOps (.of main_v191) main_call14 ++ (takeOps (.of main_v174) (.of main_v193) main_call15 ++ updOps7))))

/-- The logits of the levels, side by side. -/
def tailOps : List (HloOp τ sig (Elt F)) :=
  [StableHlo.unary main_v24 main_v197 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v48 main_v198 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v72 main_v199 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v96 main_v200 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v120 main_v201 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v144 main_v202 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v168 main_v203 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v192 main_v204 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.nary ![main_v197, main_v198, main_v199, main_v200, main_v201, main_v202, main_v203, main_v204] main_v205 (fun u => (concatenate S4096x8x8192 1 [⟨S4096x1x8192, (u 0 : (⟨S4096x1x8192, .f32⟩ : BufTy).Contents (Elt F))⟩, ⟨S4096x1x8192, (u 1 : (⟨S4096x1x8192, .f32⟩ : BufTy).Contents (Elt F))⟩, ⟨S4096x1x8192, (u 2 : (⟨S4096x1x8192, .f32⟩ : BufTy).Contents (Elt F))⟩, ⟨S4096x1x8192, (u 3 : (⟨S4096x1x8192, .f32⟩ : BufTy).Contents (Elt F))⟩, ⟨S4096x1x8192, (u 4 : (⟨S4096x1x8192, .f32⟩ : BufTy).Contents (Elt F))⟩, ⟨S4096x1x8192, (u 5 : (⟨S4096x1x8192, .f32⟩ : BufTy).Contents (Elt F))⟩, ⟨S4096x1x8192, (u 6 : (⟨S4096x1x8192, .f32⟩ : BufTy).Contents (Elt F))⟩, ⟨S4096x1x8192, (u 7 : (⟨S4096x1x8192, .f32⟩ : BufTy).Contents (Elt F))⟩] concatenates_S4096x1x8192_S4096x1x8192_S4096x1x8192_S4096x1x8192_S4096x1x8192_S4096x1x8192_S4096x1x8192_S4096x1x8192_S4096x8x8192_d1 : (⟨S4096x8x8192, .f32⟩ : BufTy).Contents (Elt F))),
   StableHlo.reshape main_v205 main_v206 (rfl : (.f32 : EltTy) = .f32) shapeCasts_S4096x8x8192_S4096x65536]

/-- All operations in order. -/
def ops : List (HloOp τ sig (Elt F)) := preOps ++ (lvl0 ++ (lvl1 ++ (lvl2 ++ (lvl3 ++ (lvl4 ++ (lvl5 ++ (lvl6 ++ (lvl7 ++ tailOps))))))))

set_option maxRecDepth 20000 in
theorem argmin_eq (arg0 : StableHlo.TRef sig ⟨S4096x8192, .f32⟩) (φ : fn_argmin.Bufs) :
    fn_argmin.body (F := F) arg0 φ = seq (argminOps arg0 φ) := rfl

set_option maxRecDepth 20000 in
theorem take_eq (arg0 : StableHlo.TRef sig ⟨S8192x64, .f32⟩) (arg1 : StableHlo.TRef sig ⟨S4096, .i32⟩) (φ : fn_take.Bufs) :
    fn_take.body (F := F) arg0 arg1 φ = seq (takeOps arg0 arg1 φ) := rfl

set_option maxHeartbeats 4000000 in
set_option maxRecDepth 100000 in
theorem part0_eq (d : Dev nD) : main_part0 (F := F) d = seq (preOps ++ (cbOps0 ++ (normOps0 ++ (distOps0 ++ (argminOps (.of main_v23) main_call0 ++ (takeOps (.of main_v6) (.of main_v25) main_call1 ++ (updOps0 ++ (cbOps1 ++ (normOps1 ++ (distOps1 ++ (argminOps (.of main_v47) main_call2 ++ (takeOps (.of main_v30) (.of main_v49) main_call3)))))))))))) := rfl

set_option maxHeartbeats 4000000 in
set_option maxRecDepth 100000 in
theorem part1_eq (d : Dev nD) : main_part1 (F := F) d = seq (updOps1 ++ (cbOps2 ++ (normOps2 ++ (distOps2 ++ (argminOps (.of main_v71) main_call4 ++ (takeOps (.of main_v54) (.of main_v73) main_call5 ++ (updOps2 ++ (cbOps3 ++ (normOps3 ++ (distOps3 ++ (argminOps (.of main_v95) main_call6 ++ (takeOps (.of main_v78) (.of main_v97) main_call7 ++ (updOps3 ++ (cbOps4)))))))))))))) := rfl

set_option maxHeartbeats 4000000 in
set_option maxRecDepth 100000 in
theorem part2_eq (d : Dev nD) : main_part2 (F := F) d = seq (normOps4 ++ (distOps4 ++ (argminOps (.of main_v119) main_call8 ++ (takeOps (.of main_v102) (.of main_v121) main_call9 ++ (updOps4 ++ (cbOps5 ++ (normOps5 ++ (distOps5 ++ (argminOps (.of main_v143) main_call10 ++ (takeOps (.of main_v126) (.of main_v145) main_call11 ++ (updOps5 ++ (cbOps6 ++ (normOps6))))))))))))) := rfl

set_option maxHeartbeats 4000000 in
set_option maxRecDepth 100000 in
theorem part3_eq (d : Dev nD) : main_part3 (F := F) d = seq (distOps6 ++ (argminOps (.of main_v167) main_call12 ++ (takeOps (.of main_v150) (.of main_v169) main_call13 ++ (updOps6 ++ (cbOps7 ++ (normOps7 ++ (distOps7 ++ (argminOps (.of main_v191) main_call14 ++ (takeOps (.of main_v174) (.of main_v193) main_call15 ++ (updOps7 ++ (tailOps))))))))))) := rfl

/-- The program is its operations in order. -/
theorem main_eq (d : Dev nD) : main (F := F) d = seq ops := by
  have e : main (F := F) d = (main_part0 d >>= fun _ => main_part1 d >>= fun _ => main_part2 d >>= fun _ => main_part3 d >>= fun _ => main_part4 d) := rfl
  rw [e, part0_eq, part1_eq, part2_eq, part3_eq, show main_part4 (F := F) d = pure ⟨⟩ from rfl]
  simp only [ops, lvl0, lvl1, lvl2, lvl3, lvl4, lvl5, lvl6, lvl7, seq_append, bind_assoc, bind_pure_unit]

/-- The reference has no scoped buffers. -/
theorem scopedRefs_eq : (Finset.univ.filter fun b : Ref sig .tc => b.isScoped) = ∅ := by decide
/-- The reference has no scoped semaphores. -/
theorem scopedSems_eq : (Finset.univ.filter fun sm : SemLoc sig => sm.isScoped .tc) = ∅ := by decide

end Cert.ReferenceIdeal.Hand
end
-- ==== Proof.RefRead.lean ====
module

public import proofs.«01_k».proof.Proof.RefOps
public import Idealize.ShloMosaic.Lib.StableHlo.ReadAt

@[expose] public section

noncomputable section

namespace Cert.ReferenceIdeal.Hand

open Cert.ReferenceIdeal Cert.ReferenceIdeal.Gen
open Idealize.ShloMosaic Idealize.ShloMosaic.StableHlo Idealize.ShloMosaic.TcCoe
open Idealize.SL Idealize.SL.Sem

variable {F : FTy → Type} [FloatOps F]

/-! ## What one level computes, as functions of arrays -/

/-- The projection of the features. -/
def projOf (x : Vec F S4096x64 .f32) (w : Vec F S64x64 .f32) (b : Vec F S64 .f32) : Vec F S4096x64 .f32 :=
  addf (Host.dotGeneral dot_S4096x64_S64x64_S4096x64_1_0_0_1_n_n none x w)
    (broadcastInDim S4096x64 ![0, 1] bcast_S1x64_S4096x64_0_1 (broadcastInDim S1x64 ![1] bcast_S64_S1x64_1 b))

/-- The array of zeros that the sum starts at. -/
def zeroOf : Vec F S4096x64 .f32 := broadcastInDim S4096x64 ![] bcast_S_S4096x64 (constant S_ .f32 0x00000000#32)

/-- One codebook out of the eight, the one at the offsets o. -/
def cbkOf (o : Fin 3 → ℕ) (h : S8x8192x64.Slices o S1x8192x64) (cb : Vec F S8x8192x64 .f32) : Vec F S8192x64 .f32 :=
  shapeCast S8192x64 (extractStridedSlice S1x8192x64 o cb h) shapeCasts_S1x8192x64_S8192x64

/-- The squares of the distances of the rows of r to the codewords C, before the clamp. -/
def sqOf (r : Vec F S4096x64 .f32) (C : Vec F S8192x64 .f32) : Vec F S4096x8192 .f32 :=
  subf
    (addf
      (broadcastInDim S4096x8192 ![0, 1] bcast_S4096x1_S4096x8192_0_1
        (broadcastInDim S4096x1 ![0] bcast_S4096_S4096x1_0
          (Host.reduceAdd (mulf r r) (constant S_ .f32 0x00000000#32) reducesTo_S4096x64_S4096_d1 h_S_)))
      (broadcastInDim S4096x8192 ![0, 1] bcast_S1x8192_S4096x8192_0_1
        (broadcastInDim S1x8192 ![1] bcast_S8192_S1x8192_1
          (Host.reduceAdd (mulf C C) (constant S_ .f32 0x00000000#32) reducesTo_S8192x64_S8192_d1 h_S_))))
    (mulf (broadcastInDim S4096x8192 ![] bcast_S_S4096x8192 (constant S_ .f32 0x40000000#32))
      (Host.dotGeneral dot_S4096x64_S64x8192_S4096x8192_1_0_0_1_n_n none r
        (transpose S64x8192 [1, 0] C transposes_S8192x64_S64x8192_1_0)))

/-- The distances of the rows of r to the codewords C. -/
def distOf (r : Vec F S4096x64 .f32) (C : Vec F S8192x64 .f32) : Vec F S4096x8192 .f32 :=
  Host.sqrt (maximumf (sqOf r C) (broadcastInDim S4096x8192 ![] bcast_S_S4096x8192 (constant S_ .f32 0x2B8CBCCC#32)))

/-- The number of the nearest codeword, row by row. -/
def idsOf (D : Vec F S4096x8192 .f32) : IVec S4096 32 := fun j =>
  (Host.argReduce reducer_argmin_f32_i32 D (iotaInDim S4096x8192 32 1) (constant S_ .f32 0x7F800000#32) (constantI S_ 32 0#32)
    reducesTo_S4096x8192_S4096_d1 h_S_ j).2

/-- The numbers, those below zero counted from the end, as a column. -/
def wrapOf (ids : IVec S4096 32) : IVec S4096x1 32 :=
  broadcastInDim S4096x1 ![0] bcast_S4096_S4096x1_0
    (select (cmpi .slt ids (broadcastInDim S4096 ![] bcast_S_S4096 (constantI S_ 32 0#32)))
      (addi ids (broadcastInDim S4096 ![] bcast_S_S4096 (constantI S_ 32 8192#32))) ids)

/-- Whether each number names a codeword. -/
def insideOf (w : IVec S4096x1 32) : IVec S4096 1 :=
  Host.reduce IntOp.andi
    (andi (cmpi .sge w (broadcastInDim S4096x1 ![] bcast_S_S4096x1 (constantI S_ 32 0#32)))
      (cmpi .sle w (broadcastInDim S4096x1 ![0, 1] bcast_S1x1_S4096x1_0_1 (broadcastInDim S1x1 ![1] bcast_S1_S1x1_1 (constantI S1 32 8191#32)))))
    (constantI S_ 1 1#1) reducesTo_S4096x1_S4096_d1 h_S_

/-- The codewords that the numbers name, row by row. -/
def takeOf (C : Vec F S8192x64 .f32) (ids : IVec S4096 32) : Vec F S4096x64 .f32 :=
  select (broadcastInDim S4096x64 ![0] bcast_S4096_S4096x64_0 (insideOf (wrapOf ids)))
    (Host.gather gather_S8192x64_S4096x1_S4096x64_1_0_n_n_0_1_164 C (wrapOf ids))
    (broadcastInDim S4096x64 ![] bcast_S_S4096x64 (constant S_ .f32 0x7FC00000#32))

/-! ## The stretches of the program read -/

variable (V : Valuation τ sig (Elt F))

/-- The operations before the levels leave the projection. -/
theorem pre_res : after preOps V (main_v3 : DevRef τ sig) = projOf (V main_arg0) (V main_arg1) (V main_arg2) := by
  after_reads_simp
  rfl
/-- The operations before the levels leave the zeros. -/
theorem pre_sum : after preOps V (main_v4 : DevRef τ sig) = zeroOf := by
  after_reads_simp
  rfl

/-- The buffers that these operations write, in order. -/
def preW : List (Ref sig .tc) := [main_v0, main_v1, main_v2, main_v3, main_cst, main_v4]
/-- These operations write those buffers. -/
theorem pre_writes : (preOps (F := F)).map HloOp.writes = preW.map fun r => {Proc.devRef (τ := τ) .tc r} := rfl

/-- The buffers that these operations write, in order. -/
def lvl0W : List (Ref sig .tc) := [main_v5, main_v6, main_v7, main_cst_0, main_v8, main_v9, main_v10, main_cst_1, main_v11, main_v12, main_v13, main_v14, main_v15, main_v16, main_v17, main_cst_2, main_v18, main_v19, main_v20, main_cst_3, main_v21, main_v22, main_v23, main_v24, main_call0_v0, main_call0_cst, main_call0_c, main_call0_v1_0, main_v25, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v26, main_v27, main_v28]
/-- These operations write those buffers. -/
theorem lvl0_writes : (lvl0 (F := F)).map HloOp.writes = lvl0W.map fun r => {Proc.devRef (τ := τ) .tc r} := rfl

/-- Level 0 leaves its logits. -/
theorem lvl0_logits : after lvl0 V (main_v24 : DevRef τ sig) = Host.negf (distOf (V main_v3) (cbkOf ![0, 0, 0] slices_S8x8192x64_S1x8192x64_0_0_0 (V main_arg3))) := by
  after_reads_simp
  rfl
/-- Level 0 adds its codewords to the sum. -/
theorem lvl0_sum : after lvl0 V (main_v27 : DevRef τ sig) = addf (V main_v4) (takeOf (cbkOf ![0, 0, 0] slices_S8x8192x64_S1x8192x64_0_0_0 (V main_arg3)) (idsOf (distOf (V main_v3) (cbkOf ![0, 0, 0] slices_S8x8192x64_S1x8192x64_0_0_0 (V main_arg3))))) := by
  after_reads_simp
  simp -implicitDefEqProofs only [StableHlo.TRef.toBuf, StableHlo.TRef.ofBuf, cast_cast, cast_eq]
  rfl
/-- Level 0 takes its codewords from the residual. -/
theorem lvl0_res : after lvl0 V (main_v28 : DevRef τ sig) = subf (V main_v3) (takeOf (cbkOf ![0, 0, 0] slices_S8x8192x64_S1x8192x64_0_0_0 (V main_arg3)) (idsOf (distOf (V main_v3) (cbkOf ![0, 0, 0] slices_S8x8192x64_S1x8192x64_0_0_0 (V main_arg3))))) := by
  after_reads_simp
  simp -implicitDefEqProofs only [StableHlo.TRef.toBuf, StableHlo.TRef.ofBuf, cast_cast, cast_eq]
  rfl

/-- The buffers that these operations write, in order. -/
def lvl1W : List (Ref sig .tc) := [main_v29, main_v30, main_v31, main_cst_4, main_v32, main_v33, main_v34, main_cst_5, main_v35, main_v36, main_v37, main_v38, main_v39, main_v40, main_v41, main_cst_6, main_v42, main_v43, main_v44, main_cst_7, main_v45, main_v46, main_v47, main_v48, main_call2_v0, main_call2_cst, main_call2_c, main_call2_v1_0, main_v49, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v50, main_v51, main_v52]
/-- These operations write those buffers. -/
theorem lvl1_writes : (lvl1 (F := F)).map HloOp.writes = lvl1W.map fun r => {Proc.devRef (τ := τ) .tc r} := rfl

/-- Level 1 leaves its logits. -/
theorem lvl1_logits : after lvl1 V (main_v48 : DevRef τ sig) = Host.negf (distOf (V main_v28) (cbkOf ![1, 0, 0] slices_S8x8192x64_S1x8192x64_1_0_0 (V main_arg3))) := by
  after_reads_simp
  rfl
/-- Level 1 adds its codewords to the sum. -/
theorem lvl1_sum : after lvl1 V (main_v51 : DevRef τ sig) = addf (V main_v27) (takeOf (cbkOf ![1, 0, 0] slices_S8x8192x64_S1x8192x64_1_0_0 (V main_arg3)) (idsOf (distOf (V main_v28) (cbkOf ![1, 0, 0] slices_S8x8192x64_S1x8192x64_1_0_0 (V main_arg3))))) := by
  after_reads_simp
  simp -implicitDefEqProofs only [StableHlo.TRef.toBuf, StableHlo.TRef.ofBuf, cast_cast, cast_eq]
  rfl
/-- Level 1 takes its codewords from the residual. -/
theorem lvl1_res : after lvl1 V (main_v52 : DevRef τ sig) = subf (V main_v28) (takeOf (cbkOf ![1, 0, 0] slices_S8x8192x64_S1x8192x64_1_0_0 (V main_arg3)) (idsOf (distOf (V main_v28) (cbkOf ![1, 0, 0] slices_S8x8192x64_S1x8192x64_1_0_0 (V main_arg3))))) := by
  after_reads_simp
  simp -implicitDefEqProofs only [StableHlo.TRef.toBuf, StableHlo.TRef.ofBuf, cast_cast, cast_eq]
  rfl

/-- The buffers that these operations write, in order. -/
def lvl2W : List (Ref sig .tc) := [main_v53, main_v54, main_v55, main_cst_8, main_v56, main_v57, main_v58, main_cst_9, main_v59, main_v60, main_v61, main_v62, main_v63, main_v64, main_v65, main_cst_10, main_v66, main_v67, main_v68, main_cst_11, main_v69, main_v70, main_v71, main_v72, main_call4_v0, main_call4_cst, main_call4_c, main_call4_v1_0, main_v73, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v74, main_v75, main_v76]
/-- These operations write those buffers. -/
theorem lvl2_writes : (lvl2 (F := F)).map HloOp.writes = lvl2W.map fun r => {Proc.devRef (τ := τ) .tc r} := rfl

/-- Level 2 leaves its logits. -/
theorem lvl2_logits : after lvl2 V (main_v72 : DevRef τ sig) = Host.negf (distOf (V main_v52) (cbkOf ![2, 0, 0] slices_S8x8192x64_S1x8192x64_2_0_0 (V main_arg3))) := by
  after_reads_simp
  rfl
/-- Level 2 adds its codewords to the sum. -/
theorem lvl2_sum : after lvl2 V (main_v75 : DevRef τ sig) = addf (V main_v51) (takeOf (cbkOf ![2, 0, 0] slices_S8x8192x64_S1x8192x64_2_0_0 (V main_arg3)) (idsOf (distOf (V main_v52) (cbkOf ![2, 0, 0] slices_S8x8192x64_S1x8192x64_2_0_0 (V main_arg3))))) := by
  after_reads_simp
  simp -implicitDefEqProofs only [StableHlo.TRef.toBuf, StableHlo.TRef.ofBuf, cast_cast, cast_eq]
  rfl
/-- Level 2 takes its codewords from the residual. -/
theorem lvl2_res : after lvl2 V (main_v76 : DevRef τ sig) = subf (V main_v52) (takeOf (cbkOf ![2, 0, 0] slices_S8x8192x64_S1x8192x64_2_0_0 (V main_arg3)) (idsOf (distOf (V main_v52) (cbkOf ![2, 0, 0] slices_S8x8192x64_S1x8192x64_2_0_0 (V main_arg3))))) := by
  after_reads_simp
  simp -implicitDefEqProofs only [StableHlo.TRef.toBuf, StableHlo.TRef.ofBuf, cast_cast, cast_eq]
  rfl

/-- The buffers that these operations write, in order. -/
def lvl3W : List (Ref sig .tc) := [main_v77, main_v78, main_v79, main_cst_12, main_v80, main_v81, main_v82, main_cst_13, main_v83, main_v84, main_v85, main_v86, main_v87, main_v88, main_v89, main_cst_14, main_v90, main_v91, main_v92, main_cst_15, main_v93, main_v94, main_v95, main_v96, main_call6_v0, main_call6_cst, main_call6_c, main_call6_v1_0, main_v97, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v98, main_v99, main_v100]
/-- These operations write those buffers. -/
theorem lvl3_writes : (lvl3 (F := F)).map HloOp.writes = lvl3W.map fun r => {Proc.devRef (τ := τ) .tc r} := rfl

/-- Level 3 leaves its logits. -/
theorem lvl3_logits : after lvl3 V (main_v96 : DevRef τ sig) = Host.negf (distOf (V main_v76) (cbkOf ![3, 0, 0] slices_S8x8192x64_S1x8192x64_3_0_0 (V main_arg3))) := by
  after_reads_simp
  rfl
/-- Level 3 adds its codewords to the sum. -/
theorem lvl3_sum : after lvl3 V (main_v99 : DevRef τ sig) = addf (V main_v75) (takeOf (cbkOf ![3, 0, 0] slices_S8x8192x64_S1x8192x64_3_0_0 (V main_arg3)) (idsOf (distOf (V main_v76) (cbkOf ![3, 0, 0] slices_S8x8192x64_S1x8192x64_3_0_0 (V main_arg3))))) := by
  after_reads_simp
  simp -implicitDefEqProofs only [StableHlo.TRef.toBuf, StableHlo.TRef.ofBuf, cast_cast, cast_eq]
  rfl
/-- Level 3 takes its codewords from the residual. -/
theorem lvl3_res : after lvl3 V (main_v100 : DevRef τ sig) = subf (V main_v76) (takeOf (cbkOf ![3, 0, 0] slices_S8x8192x64_S1x8192x64_3_0_0 (V main_arg3)) (idsOf (distOf (V main_v76) (cbkOf ![3, 0, 0] slices_S8x8192x64_S1x8192x64_3_0_0 (V main_arg3))))) := by
  after_reads_simp
  simp -implicitDefEqProofs only [StableHlo.TRef.toBuf, StableHlo.TRef.ofBuf, cast_cast, cast_eq]
  rfl

/-- The buffers that these operations write, in order. -/
def lvl4W : List (Ref sig .tc) := [main_v101, main_v102, main_v103, main_cst_16, main_v104, main_v105, main_v106, main_cst_17, main_v107, main_v108, main_v109, main_v110, main_v111, main_v112, main_v113, main_cst_18, main_v114, main_v115, main_v116, main_cst_19, main_v117, main_v118, main_v119, main_v120, main_call8_v0, main_call8_cst, main_call8_c, main_call8_v1_0, main_v121, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v122, main_v123, main_v124]
/-- These operations write those buffers. -/
theorem lvl4_writes : (lvl4 (F := F)).map HloOp.writes = lvl4W.map fun r => {Proc.devRef (τ := τ) .tc r} := rfl

/-- Level 4 leaves its logits. -/
theorem lvl4_logits : after lvl4 V (main_v120 : DevRef τ sig) = Host.negf (distOf (V main_v100) (cbkOf ![4, 0, 0] slices_S8x8192x64_S1x8192x64_4_0_0 (V main_arg3))) := by
  after_reads_simp
  rfl
/-- Level 4 adds its codewords to the sum. -/
theorem lvl4_sum : after lvl4 V (main_v123 : DevRef τ sig) = addf (V main_v99) (takeOf (cbkOf ![4, 0, 0] slices_S8x8192x64_S1x8192x64_4_0_0 (V main_arg3)) (idsOf (distOf (V main_v100) (cbkOf ![4, 0, 0] slices_S8x8192x64_S1x8192x64_4_0_0 (V main_arg3))))) := by
  after_reads_simp
  simp -implicitDefEqProofs only [StableHlo.TRef.toBuf, StableHlo.TRef.ofBuf, cast_cast, cast_eq]
  rfl
/-- Level 4 takes its codewords from the residual. -/
theorem lvl4_res : after lvl4 V (main_v124 : DevRef τ sig) = subf (V main_v100) (takeOf (cbkOf ![4, 0, 0] slices_S8x8192x64_S1x8192x64_4_0_0 (V main_arg3)) (idsOf (distOf (V main_v100) (cbkOf ![4, 0, 0] slices_S8x8192x64_S1x8192x64_4_0_0 (V main_arg3))))) := by
  after_reads_simp
  simp -implicitDefEqProofs only [StableHlo.TRef.toBuf, StableHlo.TRef.ofBuf, cast_cast, cast_eq]
  rfl

/-- The buffers that these operations write, in order. -/
def lvl5W : List (Ref sig .tc) := [main_v125, main_v126, main_v127, main_cst_20, main_v128, main_v129, main_v130, main_cst_21, main_v131, main_v132, main_v133, main_v134, main_v135, main_v136, main_v137, main_cst_22, main_v138, main_v139, main_v140, main_cst_23, main_v141, main_v142, main_v143, main_v144, main_call10_v0, main_call10_cst, main_call10_c, main_call10_v1_0, main_v145, main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v146, main_v147, main_v148]
/-- These operations write those buffers. -/
theorem lvl5_writes : (lvl5 (F := F)).map HloOp.writes = lvl5W.map fun r => {Proc.devRef (τ := τ) .tc r} := rfl

/-- Level 5 leaves its logits. -/
theorem lvl5_logits : after lvl5 V (main_v144 : DevRef τ sig) = Host.negf (distOf (V main_v124) (cbkOf ![5, 0, 0] slices_S8x8192x64_S1x8192x64_5_0_0 (V main_arg3))) := by
  after_reads_simp
  rfl
/-- Level 5 adds its codewords to the sum. -/
theorem lvl5_sum : after lvl5 V (main_v147 : DevRef τ sig) = addf (V main_v123) (takeOf (cbkOf ![5, 0, 0] slices_S8x8192x64_S1x8192x64_5_0_0 (V main_arg3)) (idsOf (distOf (V main_v124) (cbkOf ![5, 0, 0] slices_S8x8192x64_S1x8192x64_5_0_0 (V main_arg3))))) := by
  after_reads_simp
  simp -implicitDefEqProofs only [StableHlo.TRef.toBuf, StableHlo.TRef.ofBuf, cast_cast, cast_eq]
  rfl
/-- Level 5 takes its codewords from the residual. -/
theorem lvl5_res : after lvl5 V (main_v148 : DevRef τ sig) = subf (V main_v124) (takeOf (cbkOf ![5, 0, 0] slices_S8x8192x64_S1x8192x64_5_0_0 (V main_arg3)) (idsOf (distOf (V main_v124) (cbkOf ![5, 0, 0] slices_S8x8192x64_S1x8192x64_5_0_0 (V main_arg3))))) := by
  after_reads_simp
  simp -implicitDefEqProofs only [StableHlo.TRef.toBuf, StableHlo.TRef.ofBuf, cast_cast, cast_eq]
  rfl

/-- The buffers that these operations write, in order. -/
def lvl6W : List (Ref sig .tc) := [main_v149, main_v150, main_v151, main_cst_24, main_v152, main_v153, main_v154, main_cst_25, main_v155, main_v156, main_v157, main_v158, main_v159, main_v160, main_v161, main_cst_26, main_v162, main_v163, main_v164, main_cst_27, main_v165, main_v166, main_v167, main_v168, main_call12_v0, main_call12_cst, main_call12_c, main_call12_v1_0, main_v169, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v170, main_v171, main_v172]
/-- These operations write those buffers. -/
theorem lvl6_writes : (lvl6 (F := F)).map HloOp.writes = lvl6W.map fun r => {Proc.devRef (τ := τ) .tc r} := rfl

/-- Level 6 leaves its logits. -/
theorem lvl6_logits : after lvl6 V (main_v168 : DevRef τ sig) = Host.negf (distOf (V main_v148) (cbkOf ![6, 0, 0] slices_S8x8192x64_S1x8192x64_6_0_0 (V main_arg3))) := by
  after_reads_simp
  rfl
/-- Level 6 adds its codewords to the sum. -/
theorem lvl6_sum : after lvl6 V (main_v171 : DevRef τ sig) = addf (V main_v147) (takeOf (cbkOf ![6, 0, 0] slices_S8x8192x64_S1x8192x64_6_0_0 (V main_arg3)) (idsOf (distOf (V main_v148) (cbkOf ![6, 0, 0] slices_S8x8192x64_S1x8192x64_6_0_0 (V main_arg3))))) := by
  after_reads_simp
  simp -implicitDefEqProofs only [StableHlo.TRef.toBuf, StableHlo.TRef.ofBuf, cast_cast, cast_eq]
  rfl
/-- Level 6 takes its codewords from the residual. -/
theorem lvl6_res : after lvl6 V (main_v172 : DevRef τ sig) = subf (V main_v148) (takeOf (cbkOf ![6, 0, 0] slices_S8x8192x64_S1x8192x64_6_0_0 (V main_arg3)) (idsOf (distOf (V main_v148) (cbkOf ![6, 0, 0] slices_S8x8192x64_S1x8192x64_6_0_0 (V main_arg3))))) := by
  after_reads_simp
  simp -implicitDefEqProofs only [StableHlo.TRef.toBuf, StableHlo.TRef.ofBuf, cast_cast, cast_eq]
  rfl

/-- The buffers that these operations write, in order. -/
def lvl7W : List (Ref sig .tc) := [main_v173, main_v174, main_v175, main_cst_28, main_v176, main_v177, main_v178, main_cst_29, main_v179, main_v180, main_v181, main_v182, main_v183, main_v184, main_v185, main_cst_30, main_v186, main_v187, main_v188, main_cst_31, main_v189, main_v190, main_v191, main_v192, main_call14_v0, main_call14_cst, main_call14_c, main_call14_v1_0, main_v193, main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v194, main_v195, main_v196]
/-- These operations write those buffers. -/
theorem lvl7_writes : (lvl7 (F := F)).map HloOp.writes = lvl7W.map fun r => {Proc.devRef (τ := τ) .tc r} := rfl

/-- Level 7 leaves its logits. -/
theorem lvl7_logits : after lvl7 V (main_v192 : DevRef τ sig) = Host.negf (distOf (V main_v172) (cbkOf ![7, 0, 0] slices_S8x8192x64_S1x8192x64_7_0_0 (V main_arg3))) := by
  after_reads_simp
  rfl
/-- Level 7 adds its codewords to the sum. -/
theorem lvl7_sum : after lvl7 V (main_v195 : DevRef τ sig) = addf (V main_v171) (takeOf (cbkOf ![7, 0, 0] slices_S8x8192x64_S1x8192x64_7_0_0 (V main_arg3)) (idsOf (distOf (V main_v172) (cbkOf ![7, 0, 0] slices_S8x8192x64_S1x8192x64_7_0_0 (V main_arg3))))) := by
  after_reads_simp
  simp -implicitDefEqProofs only [StableHlo.TRef.toBuf, StableHlo.TRef.ofBuf, cast_cast, cast_eq]
  rfl
/-- Level 7 takes its codewords from the residual. -/
theorem lvl7_res : after lvl7 V (main_v196 : DevRef τ sig) = subf (V main_v172) (takeOf (cbkOf ![7, 0, 0] slices_S8x8192x64_S1x8192x64_7_0_0 (V main_arg3)) (idsOf (distOf (V main_v172) (cbkOf ![7, 0, 0] slices_S8x8192x64_S1x8192x64_7_0_0 (V main_arg3))))) := by
  after_reads_simp
  simp -implicitDefEqProofs only [StableHlo.TRef.toBuf, StableHlo.TRef.ofBuf, cast_cast, cast_eq]
  rfl

end Cert.ReferenceIdeal.Hand
end
-- ==== Proof.RefRun.lean ====
module

public import proofs.«01_k».proof.Proof.RefRead

@[expose] public section

noncomputable section

namespace Cert.ReferenceIdeal.Hand

open Cert.ReferenceIdeal Cert.ReferenceIdeal.Gen
open Idealize.ShloMosaic Idealize.ShloMosaic.StableHlo Idealize.ShloMosaic.TcCoe
open Idealize.SL Idealize.SL.Sem

variable {F : FTy → Type} [FloatOps F]

/-! ## The levels as a recursion -/

/-- The offsets of a codebook fit the stack of the codebooks. -/
theorem slicesAt (l : ℕ) : S8x8192x64.Slices ![l % 8, 0, 0] S1x8192x64 := by
  have h : l % 8 < 8 := Nat.mod_lt _ (by omega)
  generalize l % 8 = k at h
  interval_cases k
  exacts [slices_S8x8192x64_S1x8192x64_0_0_0, slices_S8x8192x64_S1x8192x64_1_0_0, slices_S8x8192x64_S1x8192x64_2_0_0, slices_S8x8192x64_S1x8192x64_3_0_0, slices_S8x8192x64_S1x8192x64_4_0_0, slices_S8x8192x64_S1x8192x64_5_0_0, slices_S8x8192x64_S1x8192x64_6_0_0, slices_S8x8192x64_S1x8192x64_7_0_0]

/-- The codebook of level l. -/
def cbkAt (l : ℕ) (cb : Vec F S8x8192x64 .f32) : Vec F S8192x64 .f32 := cbkOf ![l % 8, 0, 0] (slicesAt l) cb

/-- The residual before level l. -/
def resR (cb : Vec F S8x8192x64 .f32) (x : Vec F S4096x64 .f32) : ℕ → Vec F S4096x64 .f32
  | 0 => x
  | l + 1 => subf (resR cb x l) (takeOf (cbkAt l cb) (idsOf (distOf (resR cb x l) (cbkAt l cb))))

/-- The sum of the codewords taken before level l. -/
def sumR (cb : Vec F S8x8192x64 .f32) (x : Vec F S4096x64 .f32) : ℕ → Vec F S4096x64 .f32
  | 0 => zeroOf
  | l + 1 => addf (sumR cb x l) (takeOf (cbkAt l cb) (idsOf (distOf (resR cb x l) (cbkAt l cb))))

/-- The logits of level l. -/
def logR (cb : Vec F S8x8192x64 .f32) (x : Vec F S4096x64 .f32) (l : ℕ) : Vec F S4096x8192 .f32 :=
  Host.negf (distOf (resR cb x l) (cbkAt l cb))

/-- The logits of one level with an axis for the levels. -/
def colOf (u : Vec F S4096x8192 .f32) : Vec F S4096x1x8192 .f32 :=
  broadcastInDim S4096x1x8192 ![0, 2] bcast_S4096x8192_S4096x1x8192_0_2 u

/-- The logits of the eight levels side by side. -/
def catOf (u : ℕ → Vec F S4096x8192 .f32) : Vec F S4096x65536 .f32 :=
  shapeCast S4096x65536 (concatenate S4096x8x8192 1 [⟨S4096x1x8192, colOf (u 0)⟩, ⟨S4096x1x8192, colOf (u 1)⟩, ⟨S4096x1x8192, colOf (u 2)⟩, ⟨S4096x1x8192, colOf (u 3)⟩, ⟨S4096x1x8192, colOf (u 4)⟩, ⟨S4096x1x8192, colOf (u 5)⟩, ⟨S4096x1x8192, colOf (u 6)⟩, ⟨S4096x1x8192, colOf (u 7)⟩] concatenates_S4096x1x8192_S4096x1x8192_S4096x1x8192_S4096x1x8192_S4096x1x8192_S4096x1x8192_S4096x1x8192_S4096x1x8192_S4096x8x8192_d1) shapeCasts_S4096x8x8192_S4096x65536

variable (V : Valuation τ sig (Elt F))

/-- The features projected, of launch contents. -/
abbrev xV : Vec F S4096x64 .f32 := projOf (V main_arg0) (V main_arg1) (V main_arg2)

/-- The contents after the projection. -/
def st0 : Valuation τ sig (Elt F) := after preOps V
/-- The contents after level 0. -/
def st1 : Valuation τ sig (Elt F) := after lvl0 (st0 V)
/-- The contents after level 1. -/
def st2 : Valuation τ sig (Elt F) := after lvl1 (st1 V)
/-- The contents after level 2. -/
def st3 : Valuation τ sig (Elt F) := after lvl2 (st2 V)
/-- The contents after level 3. -/
def st4 : Valuation τ sig (Elt F) := after lvl3 (st3 V)
/-- The contents after level 4. -/
def st5 : Valuation τ sig (Elt F) := after lvl4 (st4 V)
/-- The contents after level 5. -/
def st6 : Valuation τ sig (Elt F) := after lvl5 (st5 V)
/-- The contents after level 6. -/
def st7 : Valuation τ sig (Elt F) := after lvl6 (st6 V)
/-- The contents after level 7. -/
def st8 : Valuation τ sig (Elt F) := after lvl7 (st7 V)

/-- The whole chain is the eight levels and then the tail. -/
theorem after_ops : after ops V = after tailOps (st8 V) := by
  unfold ops st8 st7 st6 st5 st4 st3 st2 st1 st0
  simp only [after_append]

/-- Argument 0 is kept through 0 levels. -/
theorem st0_arg0 : st0 V (main_arg0 : DevRef τ sig) = V main_arg0 :=
  (after_unwritten preW pre_writes (by decide) V).trans rfl
/-- Argument 0 is kept through 1 levels. -/
theorem st1_arg0 : st1 V (main_arg0 : DevRef τ sig) = V main_arg0 :=
  (after_unwritten lvl0W lvl0_writes (by decide) (st0 V)).trans (st0_arg0 V)
/-- Argument 0 is kept through 2 levels. -/
theorem st2_arg0 : st2 V (main_arg0 : DevRef τ sig) = V main_arg0 :=
  (after_unwritten lvl1W lvl1_writes (by decide) (st1 V)).trans (st1_arg0 V)
/-- Argument 0 is kept through 3 levels. -/
theorem st3_arg0 : st3 V (main_arg0 : DevRef τ sig) = V main_arg0 :=
  (after_unwritten lvl2W lvl2_writes (by decide) (st2 V)).trans (st2_arg0 V)
/-- Argument 0 is kept through 4 levels. -/
theorem st4_arg0 : st4 V (main_arg0 : DevRef τ sig) = V main_arg0 :=
  (after_unwritten lvl3W lvl3_writes (by decide) (st3 V)).trans (st3_arg0 V)
/-- Argument 0 is kept through 5 levels. -/
theorem st5_arg0 : st5 V (main_arg0 : DevRef τ sig) = V main_arg0 :=
  (after_unwritten lvl4W lvl4_writes (by decide) (st4 V)).trans (st4_arg0 V)
/-- Argument 0 is kept through 6 levels. -/
theorem st6_arg0 : st6 V (main_arg0 : DevRef τ sig) = V main_arg0 :=
  (after_unwritten lvl5W lvl5_writes (by decide) (st5 V)).trans (st5_arg0 V)
/-- Argument 0 is kept through 7 levels. -/
theorem st7_arg0 : st7 V (main_arg0 : DevRef τ sig) = V main_arg0 :=
  (after_unwritten lvl6W lvl6_writes (by decide) (st6 V)).trans (st6_arg0 V)
/-- Argument 0 is kept through 8 levels. -/
theorem st8_arg0 : st8 V (main_arg0 : DevRef τ sig) = V main_arg0 :=
  (after_unwritten lvl7W lvl7_writes (by decide) (st7 V)).trans (st7_arg0 V)
/-- Argument 1 is kept through 0 levels. -/
theorem st0_arg1 : st0 V (main_arg1 : DevRef τ sig) = V main_arg1 :=
  (after_unwritten preW pre_writes (by decide) V).trans rfl
/-- Argument 1 is kept through 1 levels. -/
theorem st1_arg1 : st1 V (main_arg1 : DevRef τ sig) = V main_arg1 :=
  (after_unwritten lvl0W lvl0_writes (by decide) (st0 V)).trans (st0_arg1 V)
/-- Argument 1 is kept through 2 levels. -/
theorem st2_arg1 : st2 V (main_arg1 : DevRef τ sig) = V main_arg1 :=
  (after_unwritten lvl1W lvl1_writes (by decide) (st1 V)).trans (st1_arg1 V)
/-- Argument 1 is kept through 3 levels. -/
theorem st3_arg1 : st3 V (main_arg1 : DevRef τ sig) = V main_arg1 :=
  (after_unwritten lvl2W lvl2_writes (by decide) (st2 V)).trans (st2_arg1 V)
/-- Argument 1 is kept through 4 levels. -/
theorem st4_arg1 : st4 V (main_arg1 : DevRef τ sig) = V main_arg1 :=
  (after_unwritten lvl3W lvl3_writes (by decide) (st3 V)).trans (st3_arg1 V)
/-- Argument 1 is kept through 5 levels. -/
theorem st5_arg1 : st5 V (main_arg1 : DevRef τ sig) = V main_arg1 :=
  (after_unwritten lvl4W lvl4_writes (by decide) (st4 V)).trans (st4_arg1 V)
/-- Argument 1 is kept through 6 levels. -/
theorem st6_arg1 : st6 V (main_arg1 : DevRef τ sig) = V main_arg1 :=
  (after_unwritten lvl5W lvl5_writes (by decide) (st5 V)).trans (st5_arg1 V)
/-- Argument 1 is kept through 7 levels. -/
theorem st7_arg1 : st7 V (main_arg1 : DevRef τ sig) = V main_arg1 :=
  (after_unwritten lvl6W lvl6_writes (by decide) (st6 V)).trans (st6_arg1 V)
/-- Argument 1 is kept through 8 levels. -/
theorem st8_arg1 : st8 V (main_arg1 : DevRef τ sig) = V main_arg1 :=
  (after_unwritten lvl7W lvl7_writes (by decide) (st7 V)).trans (st7_arg1 V)
/-- Argument 2 is kept through 0 levels. -/
theorem st0_arg2 : st0 V (main_arg2 : DevRef τ sig) = V main_arg2 :=
  (after_unwritten preW pre_writes (by decide) V).trans rfl
/-- Argument 2 is kept through 1 levels. -/
theorem st1_arg2 : st1 V (main_arg2 : DevRef τ sig) = V main_arg2 :=
  (after_unwritten lvl0W lvl0_writes (by decide) (st0 V)).trans (st0_arg2 V)
/-- Argument 2 is kept through 2 levels. -/
theorem st2_arg2 : st2 V (main_arg2 : DevRef τ sig) = V main_arg2 :=
  (after_unwritten lvl1W lvl1_writes (by decide) (st1 V)).trans (st1_arg2 V)
/-- Argument 2 is kept through 3 levels. -/
theorem st3_arg2 : st3 V (main_arg2 : DevRef τ sig) = V main_arg2 :=
  (after_unwritten lvl2W lvl2_writes (by decide) (st2 V)).trans (st2_arg2 V)
/-- Argument 2 is kept through 4 levels. -/
theorem st4_arg2 : st4 V (main_arg2 : DevRef τ sig) = V main_arg2 :=
  (after_unwritten lvl3W lvl3_writes (by decide) (st3 V)).trans (st3_arg2 V)
/-- Argument 2 is kept through 5 levels. -/
theorem st5_arg2 : st5 V (main_arg2 : DevRef τ sig) = V main_arg2 :=
  (after_unwritten lvl4W lvl4_writes (by decide) (st4 V)).trans (st4_arg2 V)
/-- Argument 2 is kept through 6 levels. -/
theorem st6_arg2 : st6 V (main_arg2 : DevRef τ sig) = V main_arg2 :=
  (after_unwritten lvl5W lvl5_writes (by decide) (st5 V)).trans (st5_arg2 V)
/-- Argument 2 is kept through 7 levels. -/
theorem st7_arg2 : st7 V (main_arg2 : DevRef τ sig) = V main_arg2 :=
  (after_unwritten lvl6W lvl6_writes (by decide) (st6 V)).trans (st6_arg2 V)
/-- Argument 2 is kept through 8 levels. -/
theorem st8_arg2 : st8 V (main_arg2 : DevRef τ sig) = V main_arg2 :=
  (after_unwritten lvl7W lvl7_writes (by decide) (st7 V)).trans (st7_arg2 V)
/-- Argument 3 is kept through 0 levels. -/
theorem st0_arg3 : st0 V (main_arg3 : DevRef τ sig) = V main_arg3 :=
  (after_unwritten preW pre_writes (by decide) V).trans rfl
/-- Argument 3 is kept through 1 levels. -/
theorem st1_arg3 : st1 V (main_arg3 : DevRef τ sig) = V main_arg3 :=
  (after_unwritten lvl0W lvl0_writes (by decide) (st0 V)).trans (st0_arg3 V)
/-- Argument 3 is kept through 2 levels. -/
theorem st2_arg3 : st2 V (main_arg3 : DevRef τ sig) = V main_arg3 :=
  (after_unwritten lvl1W lvl1_writes (by decide) (st1 V)).trans (st1_arg3 V)
/-- Argument 3 is kept through 3 levels. -/
theorem st3_arg3 : st3 V (main_arg3 : DevRef τ sig) = V main_arg3 :=
  (after_unwritten lvl2W lvl2_writes (by decide) (st2 V)).trans (st2_arg3 V)
/-- Argument 3 is kept through 4 levels. -/
theorem st4_arg3 : st4 V (main_arg3 : DevRef τ sig) = V main_arg3 :=
  (after_unwritten lvl3W lvl3_writes (by decide) (st3 V)).trans (st3_arg3 V)
/-- Argument 3 is kept through 5 levels. -/
theorem st5_arg3 : st5 V (main_arg3 : DevRef τ sig) = V main_arg3 :=
  (after_unwritten lvl4W lvl4_writes (by decide) (st4 V)).trans (st4_arg3 V)
/-- Argument 3 is kept through 6 levels. -/
theorem st6_arg3 : st6 V (main_arg3 : DevRef τ sig) = V main_arg3 :=
  (after_unwritten lvl5W lvl5_writes (by decide) (st5 V)).trans (st5_arg3 V)
/-- Argument 3 is kept through 7 levels. -/
theorem st7_arg3 : st7 V (main_arg3 : DevRef τ sig) = V main_arg3 :=
  (after_unwritten lvl6W lvl6_writes (by decide) (st6 V)).trans (st6_arg3 V)
/-- Argument 3 is kept through 8 levels. -/
theorem st8_arg3 : st8 V (main_arg3 : DevRef τ sig) = V main_arg3 :=
  (after_unwritten lvl7W lvl7_writes (by decide) (st7 V)).trans (st7_arg3 V)

/-- The residual after 0 levels. -/
theorem st0_res : st0 V (main_v3 : DevRef τ sig) = resR (V main_arg3) (xV V) 0 := pre_res V
/-- The sum after 0 levels. -/
theorem st0_sum : st0 V (main_v4 : DevRef τ sig) = sumR (V main_arg3) (xV V) 0 := pre_sum V
/-- The residual after 1 levels. -/
theorem st1_res : st1 V (main_v28 : DevRef τ sig) = resR (V main_arg3) (xV V) 1 := by
  refine (lvl0_res (st0 V)).trans ?_
  rw [st0_res V, st0_arg3 V]
  rfl
/-- The sum after 1 levels. -/
theorem st1_sum : st1 V (main_v27 : DevRef τ sig) = sumR (V main_arg3) (xV V) 1 := by
  refine (lvl0_sum (st0 V)).trans ?_
  rw [st0_res V, st0_sum V, st0_arg3 V]
  rfl
/-- The logits of level 0 after 1 levels. -/
theorem st1_log0 : st1 V (main_v24 : DevRef τ sig) = logR (V main_arg3) (xV V) 0 := by
  refine (lvl0_logits (st0 V)).trans ?_
  rw [st0_res V, st0_arg3 V]
  rfl
/-- The logits of level 0 after 2 levels. -/
theorem st2_log0 : st2 V (main_v24 : DevRef τ sig) = logR (V main_arg3) (xV V) 0 :=
  (after_unwritten lvl1W lvl1_writes (by decide) (st1 V)).trans (st1_log0 V)
/-- The logits of level 0 after 3 levels. -/
theorem st3_log0 : st3 V (main_v24 : DevRef τ sig) = logR (V main_arg3) (xV V) 0 :=
  (after_unwritten lvl2W lvl2_writes (by decide) (st2 V)).trans (st2_log0 V)
/-- The logits of level 0 after 4 levels. -/
theorem st4_log0 : st4 V (main_v24 : DevRef τ sig) = logR (V main_arg3) (xV V) 0 :=
  (after_unwritten lvl3W lvl3_writes (by decide) (st3 V)).trans (st3_log0 V)
/-- The logits of level 0 after 5 levels. -/
theorem st5_log0 : st5 V (main_v24 : DevRef τ sig) = logR (V main_arg3) (xV V) 0 :=
  (after_unwritten lvl4W lvl4_writes (by decide) (st4 V)).trans (st4_log0 V)
/-- The logits of level 0 after 6 levels. -/
theorem st6_log0 : st6 V (main_v24 : DevRef τ sig) = logR (V main_arg3) (xV V) 0 :=
  (after_unwritten lvl5W lvl5_writes (by decide) (st5 V)).trans (st5_log0 V)
/-- The logits of level 0 after 7 levels. -/
theorem st7_log0 : st7 V (main_v24 : DevRef τ sig) = logR (V main_arg3) (xV V) 0 :=
  (after_unwritten lvl6W lvl6_writes (by decide) (st6 V)).trans (st6_log0 V)
/-- The logits of level 0 after 8 levels. -/
theorem st8_log0 : st8 V (main_v24 : DevRef τ sig) = logR (V main_arg3) (xV V) 0 :=
  (after_unwritten lvl7W lvl7_writes (by decide) (st7 V)).trans (st7_log0 V)
/-- The residual after 2 levels. -/
theorem st2_res : st2 V (main_v52 : DevRef τ sig) = resR (V main_arg3) (xV V) 2 := by
  refine (lvl1_res (st1 V)).trans ?_
  rw [st1_res V, st1_arg3 V]
  rfl
/-- The sum after 2 levels. -/
theorem st2_sum : st2 V (main_v51 : DevRef τ sig) = sumR (V main_arg3) (xV V) 2 := by
  refine (lvl1_sum (st1 V)).trans ?_
  rw [st1_res V, st1_sum V, st1_arg3 V]
  rfl
/-- The logits of level 1 after 2 levels. -/
theorem st2_log1 : st2 V (main_v48 : DevRef τ sig) = logR (V main_arg3) (xV V) 1 := by
  refine (lvl1_logits (st1 V)).trans ?_
  rw [st1_res V, st1_arg3 V]
  rfl
/-- The logits of level 1 after 3 levels. -/
theorem st3_log1 : st3 V (main_v48 : DevRef τ sig) = logR (V main_arg3) (xV V) 1 :=
  (after_unwritten lvl2W lvl2_writes (by decide) (st2 V)).trans (st2_log1 V)
/-- The logits of level 1 after 4 levels. -/
theorem st4_log1 : st4 V (main_v48 : DevRef τ sig) = logR (V main_arg3) (xV V) 1 :=
  (after_unwritten lvl3W lvl3_writes (by decide) (st3 V)).trans (st3_log1 V)
/-- The logits of level 1 after 5 levels. -/
theorem st5_log1 : st5 V (main_v48 : DevRef τ sig) = logR (V main_arg3) (xV V) 1 :=
  (after_unwritten lvl4W lvl4_writes (by decide) (st4 V)).trans (st4_log1 V)
/-- The logits of level 1 after 6 levels. -/
theorem st6_log1 : st6 V (main_v48 : DevRef τ sig) = logR (V main_arg3) (xV V) 1 :=
  (after_unwritten lvl5W lvl5_writes (by decide) (st5 V)).trans (st5_log1 V)
/-- The logits of level 1 after 7 levels. -/
theorem st7_log1 : st7 V (main_v48 : DevRef τ sig) = logR (V main_arg3) (xV V) 1 :=
  (after_unwritten lvl6W lvl6_writes (by decide) (st6 V)).trans (st6_log1 V)
/-- The logits of level 1 after 8 levels. -/
theorem st8_log1 : st8 V (main_v48 : DevRef τ sig) = logR (V main_arg3) (xV V) 1 :=
  (after_unwritten lvl7W lvl7_writes (by decide) (st7 V)).trans (st7_log1 V)
/-- The residual after 3 levels. -/
theorem st3_res : st3 V (main_v76 : DevRef τ sig) = resR (V main_arg3) (xV V) 3 := by
  refine (lvl2_res (st2 V)).trans ?_
  rw [st2_res V, st2_arg3 V]
  rfl
/-- The sum after 3 levels. -/
theorem st3_sum : st3 V (main_v75 : DevRef τ sig) = sumR (V main_arg3) (xV V) 3 := by
  refine (lvl2_sum (st2 V)).trans ?_
  rw [st2_res V, st2_sum V, st2_arg3 V]
  rfl
/-- The logits of level 2 after 3 levels. -/
theorem st3_log2 : st3 V (main_v72 : DevRef τ sig) = logR (V main_arg3) (xV V) 2 := by
  refine (lvl2_logits (st2 V)).trans ?_
  rw [st2_res V, st2_arg3 V]
  rfl
/-- The logits of level 2 after 4 levels. -/
theorem st4_log2 : st4 V (main_v72 : DevRef τ sig) = logR (V main_arg3) (xV V) 2 :=
  (after_unwritten lvl3W lvl3_writes (by decide) (st3 V)).trans (st3_log2 V)
/-- The logits of level 2 after 5 levels. -/
theorem st5_log2 : st5 V (main_v72 : DevRef τ sig) = logR (V main_arg3) (xV V) 2 :=
  (after_unwritten lvl4W lvl4_writes (by decide) (st4 V)).trans (st4_log2 V)
/-- The logits of level 2 after 6 levels. -/
theorem st6_log2 : st6 V (main_v72 : DevRef τ sig) = logR (V main_arg3) (xV V) 2 :=
  (after_unwritten lvl5W lvl5_writes (by decide) (st5 V)).trans (st5_log2 V)
/-- The logits of level 2 after 7 levels. -/
theorem st7_log2 : st7 V (main_v72 : DevRef τ sig) = logR (V main_arg3) (xV V) 2 :=
  (after_unwritten lvl6W lvl6_writes (by decide) (st6 V)).trans (st6_log2 V)
/-- The logits of level 2 after 8 levels. -/
theorem st8_log2 : st8 V (main_v72 : DevRef τ sig) = logR (V main_arg3) (xV V) 2 :=
  (after_unwritten lvl7W lvl7_writes (by decide) (st7 V)).trans (st7_log2 V)
/-- The residual after 4 levels. -/
theorem st4_res : st4 V (main_v100 : DevRef τ sig) = resR (V main_arg3) (xV V) 4 := by
  refine (lvl3_res (st3 V)).trans ?_
  rw [st3_res V, st3_arg3 V]
  rfl
/-- The sum after 4 levels. -/
theorem st4_sum : st4 V (main_v99 : DevRef τ sig) = sumR (V main_arg3) (xV V) 4 := by
  refine (lvl3_sum (st3 V)).trans ?_
  rw [st3_res V, st3_sum V, st3_arg3 V]
  rfl
/-- The logits of level 3 after 4 levels. -/
theorem st4_log3 : st4 V (main_v96 : DevRef τ sig) = logR (V main_arg3) (xV V) 3 := by
  refine (lvl3_logits (st3 V)).trans ?_
  rw [st3_res V, st3_arg3 V]
  rfl
/-- The logits of level 3 after 5 levels. -/
theorem st5_log3 : st5 V (main_v96 : DevRef τ sig) = logR (V main_arg3) (xV V) 3 :=
  (after_unwritten lvl4W lvl4_writes (by decide) (st4 V)).trans (st4_log3 V)
/-- The logits of level 3 after 6 levels. -/
theorem st6_log3 : st6 V (main_v96 : DevRef τ sig) = logR (V main_arg3) (xV V) 3 :=
  (after_unwritten lvl5W lvl5_writes (by decide) (st5 V)).trans (st5_log3 V)
/-- The logits of level 3 after 7 levels. -/
theorem st7_log3 : st7 V (main_v96 : DevRef τ sig) = logR (V main_arg3) (xV V) 3 :=
  (after_unwritten lvl6W lvl6_writes (by decide) (st6 V)).trans (st6_log3 V)
/-- The logits of level 3 after 8 levels. -/
theorem st8_log3 : st8 V (main_v96 : DevRef τ sig) = logR (V main_arg3) (xV V) 3 :=
  (after_unwritten lvl7W lvl7_writes (by decide) (st7 V)).trans (st7_log3 V)
/-- The residual after 5 levels. -/
theorem st5_res : st5 V (main_v124 : DevRef τ sig) = resR (V main_arg3) (xV V) 5 := by
  refine (lvl4_res (st4 V)).trans ?_
  rw [st4_res V, st4_arg3 V]
  rfl
/-- The sum after 5 levels. -/
theorem st5_sum : st5 V (main_v123 : DevRef τ sig) = sumR (V main_arg3) (xV V) 5 := by
  refine (lvl4_sum (st4 V)).trans ?_
  rw [st4_res V, st4_sum V, st4_arg3 V]
  rfl
/-- The logits of level 4 after 5 levels. -/
theorem st5_log4 : st5 V (main_v120 : DevRef τ sig) = logR (V main_arg3) (xV V) 4 := by
  refine (lvl4_logits (st4 V)).trans ?_
  rw [st4_res V, st4_arg3 V]
  rfl
/-- The logits of level 4 after 6 levels. -/
theorem st6_log4 : st6 V (main_v120 : DevRef τ sig) = logR (V main_arg3) (xV V) 4 :=
  (after_unwritten lvl5W lvl5_writes (by decide) (st5 V)).trans (st5_log4 V)
/-- The logits of level 4 after 7 levels. -/
theorem st7_log4 : st7 V (main_v120 : DevRef τ sig) = logR (V main_arg3) (xV V) 4 :=
  (after_unwritten lvl6W lvl6_writes (by decide) (st6 V)).trans (st6_log4 V)
/-- The logits of level 4 after 8 levels. -/
theorem st8_log4 : st8 V (main_v120 : DevRef τ sig) = logR (V main_arg3) (xV V) 4 :=
  (after_unwritten lvl7W lvl7_writes (by decide) (st7 V)).trans (st7_log4 V)
/-- The residual after 6 levels. -/
theorem st6_res : st6 V (main_v148 : DevRef τ sig) = resR (V main_arg3) (xV V) 6 := by
  refine (lvl5_res (st5 V)).trans ?_
  rw [st5_res V, st5_arg3 V]
  rfl
/-- The sum after 6 levels. -/
theorem st6_sum : st6 V (main_v147 : DevRef τ sig) = sumR (V main_arg3) (xV V) 6 := by
  refine (lvl5_sum (st5 V)).trans ?_
  rw [st5_res V, st5_sum V, st5_arg3 V]
  rfl
/-- The logits of level 5 after 6 levels. -/
theorem st6_log5 : st6 V (main_v144 : DevRef τ sig) = logR (V main_arg3) (xV V) 5 := by
  refine (lvl5_logits (st5 V)).trans ?_
  rw [st5_res V, st5_arg3 V]
  rfl
/-- The logits of level 5 after 7 levels. -/
theorem st7_log5 : st7 V (main_v144 : DevRef τ sig) = logR (V main_arg3) (xV V) 5 :=
  (after_unwritten lvl6W lvl6_writes (by decide) (st6 V)).trans (st6_log5 V)
/-- The logits of level 5 after 8 levels. -/
theorem st8_log5 : st8 V (main_v144 : DevRef τ sig) = logR (V main_arg3) (xV V) 5 :=
  (after_unwritten lvl7W lvl7_writes (by decide) (st7 V)).trans (st7_log5 V)
/-- The residual after 7 levels. -/
theorem st7_res : st7 V (main_v172 : DevRef τ sig) = resR (V main_arg3) (xV V) 7 := by
  refine (lvl6_res (st6 V)).trans ?_
  rw [st6_res V, st6_arg3 V]
  rfl
/-- The sum after 7 levels. -/
theorem st7_sum : st7 V (main_v171 : DevRef τ sig) = sumR (V main_arg3) (xV V) 7 := by
  refine (lvl6_sum (st6 V)).trans ?_
  rw [st6_res V, st6_sum V, st6_arg3 V]
  rfl
/-- The logits of level 6 after 7 levels. -/
theorem st7_log6 : st7 V (main_v168 : DevRef τ sig) = logR (V main_arg3) (xV V) 6 := by
  refine (lvl6_logits (st6 V)).trans ?_
  rw [st6_res V, st6_arg3 V]
  rfl
/-- The logits of level 6 after 8 levels. -/
theorem st8_log6 : st8 V (main_v168 : DevRef τ sig) = logR (V main_arg3) (xV V) 6 :=
  (after_unwritten lvl7W lvl7_writes (by decide) (st7 V)).trans (st7_log6 V)
/-- The residual after 8 levels. -/
theorem st8_res : st8 V (main_v196 : DevRef τ sig) = resR (V main_arg3) (xV V) 8 := by
  refine (lvl7_res (st7 V)).trans ?_
  rw [st7_res V, st7_arg3 V]
  rfl
/-- The sum after 8 levels. -/
theorem st8_sum : st8 V (main_v195 : DevRef τ sig) = sumR (V main_arg3) (xV V) 8 := by
  refine (lvl7_sum (st7 V)).trans ?_
  rw [st7_res V, st7_sum V, st7_arg3 V]
  rfl
/-- The logits of level 7 after 8 levels. -/
theorem st8_log7 : st8 V (main_v192 : DevRef τ sig) = logR (V main_arg3) (xV V) 7 := by
  refine (lvl7_logits (st7 V)).trans ?_
  rw [st7_res V, st7_arg3 V]
  rfl

/-- The buffers that these operations write, in order. -/
def tailW : List (Ref sig .tc) := [main_v197, main_v198, main_v199, main_v200, main_v201, main_v202, main_v203, main_v204, main_v205, main_v206]
/-- These operations write those buffers. -/
theorem tail_writes : (tailOps (F := F)).map HloOp.writes = tailW.map fun r => {Proc.devRef (τ := τ) .tc r} := rfl

/-- The eight arrays of logits given an axis for the levels. -/
def colOps : List (HloOp τ sig (Elt F)) :=
  [StableHlo.unary main_v24 main_v197 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v48 main_v198 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v72 main_v199 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v96 main_v200 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v120 main_v201 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v144 main_v202 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v168 main_v203 (broadcastInDim S4096x1x8192 ![0, 2] bcast_S4096x8192_S4096x1x8192_0_2 : (⟨S4096x8192, .f32⟩ : BufTy).Contents (Elt F) → (⟨S4096x1x8192, .f32⟩ : BufTy).Contents (Elt F)),
   StableHlo.unary main_v192 main_v204 (broadcastInDim S4096x1x8192 ![0, 2] bcast_S4096x8192_S4096x1x8192_0_2 : (⟨S4096x8192, .f32⟩ : BufTy).Contents (Elt F) → (⟨S4096x1x8192, .f32⟩ : BufTy).Contents (Elt F))]

/-- The logits of level 0 with an axis for the levels. -/
theorem col_0 : after colOps V (main_v197 : DevRef τ sig) = colOf (V main_v24) := by
  after_reads_simp
  rfl
/-- The logits of level 1 with an axis for the levels. -/
theorem col_1 : after colOps V (main_v198 : DevRef τ sig) = colOf (V main_v48) := by
  after_reads_simp
  rfl
/-- The logits of level 2 with an axis for the levels. -/
theorem col_2 : after colOps V (main_v199 : DevRef τ sig) = colOf (V main_v72) := by
  after_reads_simp
  rfl
/-- The logits of level 3 with an axis for the levels. -/
theorem col_3 : after colOps V (main_v200 : DevRef τ sig) = colOf (V main_v96) := by
  after_reads_simp
  rfl
/-- The logits of level 4 with an axis for the levels. -/
theorem col_4 : after colOps V (main_v201 : DevRef τ sig) = colOf (V main_v120) := by
  after_reads_simp
  rfl
/-- The logits of level 5 with an axis for the levels. -/
theorem col_5 : after colOps V (main_v202 : DevRef τ sig) = colOf (V main_v144) := by
  after_reads_simp
  rfl
/-- The logits of level 6 with an axis for the levels. -/
theorem col_6 : after colOps V (main_v203 : DevRef τ sig) = colOf (V main_v168) := by
  after_reads_simp
  rfl
/-- The logits of level 7 with an axis for the levels. -/
theorem col_7 : after colOps V (main_v204 : DevRef τ sig) = colOf (V main_v192) := by
  after_reads_simp
  rfl

/-- The first eight operations of the tail are those that add the axis. -/
theorem upto_tail : upto tailOps V 8 = after colOps V := rfl

/-- The logits that the tail leaves. -/
theorem tail_log (u : ℕ → Vec F S4096x8192 .f32) (h0 : V (main_v24 : DevRef τ sig) = u 0) (h1 : V (main_v48 : DevRef τ sig) = u 1) (h2 : V (main_v72 : DevRef τ sig) = u 2) (h3 : V (main_v96 : DevRef τ sig) = u 3) (h4 : V (main_v120 : DevRef τ sig) = u 4) (h5 : V (main_v144 : DevRef τ sig) = u 5) (h6 : V (main_v168 : DevRef τ sig) = u 6) (h7 : V (main_v192 : DevRef τ sig) = u 7) :
    after tailOps V (main_v206 : DevRef τ sig) = catOf u := by
  after_reads_simp
  rw [upto_tail]
  change shapeCast S4096x65536 (concatenate S4096x8x8192 1 [⟨S4096x1x8192, (after colOps V (main_v197 : DevRef τ sig) : Vec F S4096x1x8192 .f32)⟩, ⟨S4096x1x8192, (after colOps V (main_v198 : DevRef τ sig) : Vec F S4096x1x8192 .f32)⟩, ⟨S4096x1x8192, (after colOps V (main_v199 : DevRef τ sig) : Vec F S4096x1x8192 .f32)⟩, ⟨S4096x1x8192, (after colOps V (main_v200 : DevRef τ sig) : Vec F S4096x1x8192 .f32)⟩, ⟨S4096x1x8192, (after colOps V (main_v201 : DevRef τ sig) : Vec F S4096x1x8192 .f32)⟩, ⟨S4096x1x8192, (after colOps V (main_v202 : DevRef τ sig) : Vec F S4096x1x8192 .f32)⟩, ⟨S4096x1x8192, (after colOps V (main_v203 : DevRef τ sig) : Vec F S4096x1x8192 .f32)⟩, ⟨S4096x1x8192, (after colOps V (main_v204 : DevRef τ sig) : Vec F S4096x1x8192 .f32)⟩] concatenates_S4096x1x8192_S4096x1x8192_S4096x1x8192_S4096x1x8192_S4096x1x8192_S4096x1x8192_S4096x1x8192_S4096x1x8192_S4096x8x8192_d1) shapeCasts_S4096x8x8192_S4096x65536 = catOf u
  rw [col_0, col_1, col_2, col_3, col_4, col_5, col_6, col_7, h0, h1, h2, h3, h4, h5, h6, h7]
  rfl

/-- The logits at the end. -/
theorem ops_log : after ops V (main_v206 : DevRef τ sig) = catOf (logR (V main_arg3) (xV V)) := by
  rw [after_ops]
  exact tail_log (st8 V) _ (st8_log0 V) (st8_log1 V) (st8_log2 V) (st8_log3 V) (st8_log4 V) (st8_log5 V) (st8_log6 V) (st8_log7 V)

/-- The sum at the end. -/
theorem ops_sum : after ops V (main_v195 : DevRef τ sig) = sumR (V main_arg3) (xV V) 8 := by
  rw [after_ops]
  exact (after_unwritten tailW tail_writes (by decide) (st8 V)).trans (st8_sum V)

/-- The whole chain keeps argument 0. -/
theorem ops_arg0 : after ops V (main_arg0 : DevRef τ sig) = V main_arg0 := by
  rw [after_ops]
  exact (after_unwritten tailW tail_writes (by decide) (st8 V)).trans (st8_arg0 V)
/-- The whole chain keeps argument 1. -/
theorem ops_arg1 : after ops V (main_arg1 : DevRef τ sig) = V main_arg1 := by
  rw [after_ops]
  exact (after_unwritten tailW tail_writes (by decide) (st8 V)).trans (st8_arg1 V)
/-- The whole chain keeps argument 2. -/
theorem ops_arg2 : after ops V (main_arg2 : DevRef τ sig) = V main_arg2 := by
  rw [after_ops]
  exact (after_unwritten tailW tail_writes (by decide) (st8 V)).trans (st8_arg2 V)
/-- The whole chain keeps argument 3. -/
theorem ops_arg3 : after ops V (main_arg3 : DevRef τ sig) = V main_arg3 := by
  rw [after_ops]
  exact (after_unwritten tailW tail_writes (by decide) (st8 V)).trans (st8_arg3 V)

/-! ## The run -/

/-- These operations touch buffers of the TensorCore only. -/
theorem argmin_sub (arg0 : StableHlo.TRef sig ⟨S4096x8192, .f32⟩) (φ : fn_argmin.Bufs) :
    (argminOps (F := F) arg0 φ).Forall fun op => op.bufs ⊆ tcRefs τ sig := by
  simp [argminOps, StableHlo.TRef.nullary, StableHlo.TRef.unary, StableHlo.TRef.binary, StableHlo.TRef.ternary]
/-- These operations touch buffers of the TensorCore only. -/
theorem take_sub (arg0 : StableHlo.TRef sig ⟨S8192x64, .f32⟩) (arg1 : StableHlo.TRef sig ⟨S4096, .i32⟩) (φ : fn_take.Bufs) :
    (takeOps (F := F) arg0 arg1 φ).Forall fun op => op.bufs ⊆ tcRefs τ sig := by
  simp [takeOps, StableHlo.TRef.nullary, StableHlo.TRef.unary, StableHlo.TRef.binary, StableHlo.TRef.ternary]
/-- These operations touch buffers of the TensorCore only. -/
theorem pre_sub : (preOps (F := F)).Forall fun op => op.bufs ⊆ tcRefs τ sig := by
  simp [preOps]
/-- These operations touch buffers of the TensorCore only. -/
theorem tail_sub : (tailOps (F := F)).Forall fun op => op.bufs ⊆ tcRefs τ sig := by
  simp [tailOps]
/-- None of these operations leaves a result undetermined. -/
theorem pre_fresh : (preOps (F := F)).Forall fun op => op.fresh = ∅ := forall_fresh_of_map rfl
/-- None of these operations leaves a result undetermined. -/
theorem tail_fresh : (tailOps (F := F)).Forall fun op => op.fresh = ∅ := forall_fresh_of_map rfl
/-- These operations touch buffers of the TensorCore only. -/
theorem lvl0_sub : (lvl0 (F := F)).Forall fun op => op.bufs ⊆ tcRefs τ sig := by
  simp [lvl0, List.forall_append, cbOps0, normOps0, distOps0, updOps0, argmin_sub, take_sub]
/-- None of these operations leaves a result undetermined. -/
theorem lvl0_fresh : (lvl0 (F := F)).Forall fun op => op.fresh = ∅ := forall_fresh_of_map rfl
/-- These operations touch buffers of the TensorCore only. -/
theorem lvl1_sub : (lvl1 (F := F)).Forall fun op => op.bufs ⊆ tcRefs τ sig := by
  simp [lvl1, List.forall_append, cbOps1, normOps1, distOps1, updOps1, argmin_sub, take_sub]
/-- None of these operations leaves a result undetermined. -/
theorem lvl1_fresh : (lvl1 (F := F)).Forall fun op => op.fresh = ∅ := forall_fresh_of_map rfl
/-- These operations touch buffers of the TensorCore only. -/
theorem lvl2_sub : (lvl2 (F := F)).Forall fun op => op.bufs ⊆ tcRefs τ sig := by
  simp [lvl2, List.forall_append, cbOps2, normOps2, distOps2, updOps2, argmin_sub, take_sub]
/-- None of these operations leaves a result undetermined. -/
theorem lvl2_fresh : (lvl2 (F := F)).Forall fun op => op.fresh = ∅ := forall_fresh_of_map rfl
/-- These operations touch buffers of the TensorCore only. -/
theorem lvl3_sub : (lvl3 (F := F)).Forall fun op => op.bufs ⊆ tcRefs τ sig := by
  simp [lvl3, List.forall_append, cbOps3, normOps3, distOps3, updOps3, argmin_sub, take_sub]
/-- None of these operations leaves a result undetermined. -/
theorem lvl3_fresh : (lvl3 (F := F)).Forall fun op => op.fresh = ∅ := forall_fresh_of_map rfl
/-- These operations touch buffers of the TensorCore only. -/
theorem lvl4_sub : (lvl4 (F := F)).Forall fun op => op.bufs ⊆ tcRefs τ sig := by
  simp [lvl4, List.forall_append, cbOps4, normOps4, distOps4, updOps4, argmin_sub, take_sub]
/-- None of these operations leaves a result undetermined. -/
theorem lvl4_fresh : (lvl4 (F := F)).Forall fun op => op.fresh = ∅ := forall_fresh_of_map rfl
/-- These operations touch buffers of the TensorCore only. -/
theorem lvl5_sub : (lvl5 (F := F)).Forall fun op => op.bufs ⊆ tcRefs τ sig := by
  simp [lvl5, List.forall_append, cbOps5, normOps5, distOps5, updOps5, argmin_sub, take_sub]
/-- None of these operations leaves a result undetermined. -/
theorem lvl5_fresh : (lvl5 (F := F)).Forall fun op => op.fresh = ∅ := forall_fresh_of_map rfl
/-- These operations touch buffers of the TensorCore only. -/
theorem lvl6_sub : (lvl6 (F := F)).Forall fun op => op.bufs ⊆ tcRefs τ sig := by
  simp [lvl6, List.forall_append, cbOps6, normOps6, distOps6, updOps6, argmin_sub, take_sub]
/-- None of these operations leaves a result undetermined. -/
theorem lvl6_fresh : (lvl6 (F := F)).Forall fun op => op.fresh = ∅ := forall_fresh_of_map rfl
/-- These operations touch buffers of the TensorCore only. -/
theorem lvl7_sub : (lvl7 (F := F)).Forall fun op => op.bufs ⊆ tcRefs τ sig := by
  simp [lvl7, List.forall_append, cbOps7, normOps7, distOps7, updOps7, argmin_sub, take_sub]
/-- None of these operations leaves a result undetermined. -/
theorem lvl7_fresh : (lvl7 (F := F)).Forall fun op => op.fresh = ∅ := forall_fresh_of_map rfl

/-- Every operation touches buffers of the TensorCore only. -/
theorem ops_bufs : (ops (F := F)).Forall fun op => op.bufs ⊆ tcRefs τ sig := by
  simp only [ops, List.forall_append]
  exact ⟨pre_sub, lvl0_sub, lvl1_sub, lvl2_sub, lvl3_sub, lvl4_sub, lvl5_sub, lvl6_sub, lvl7_sub, tail_sub⟩

/-- No operation leaves a result undetermined. -/
theorem ops_fresh : (ops (F := F)).Forall fun op => op.fresh = ∅ := by
  simp only [ops, List.forall_append]
  exact ⟨pre_fresh, lvl0_fresh, lvl1_fresh, lvl2_fresh, lvl3_fresh, lvl4_fresh, lvl5_fresh, lvl6_fresh, lvl7_fresh, tail_fresh⟩

/-- The reference runs, its two results are the recursion's, its arguments are kept, and no semaphore is left set. -/
theorem run_ref (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_v206) = catOf (logR (m ((c.tc : Thread nD τ).loc main_arg3)) (projOf (m ((c.tc : Thread nD τ).loc main_arg0)) (m ((c.tc : Thread nD τ).loc main_arg1)) (m ((c.tc : Thread nD τ).loc main_arg2)))))
      ∧ (r.2.mem ((c.tc : Thread nD τ).loc main_v195) = sumR (m ((c.tc : Thread nD τ).loc main_arg3)) (projOf (m ((c.tc : Thread nD τ).loc main_arg0)) (m ((c.tc : Thread nD τ).loc main_arg1)) (m ((c.tc : Thread nD τ).loc main_arg2))) 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
      ⟨(h c main_v206).trans (ops_log _), (h c main_v195).trans (ops_sum _),
        (h c main_arg0).trans (ops_arg0 _), (h c main_arg1).trans (ops_arg1 _),
        (h c main_arg2).trans (ops_arg2 _), (h c main_arg3).trans (ops_arg3 _)⟩,
      sem_eq_zero_of_no_sems (by decide) r.2⟩)
    (run_seq scopedRefs_eq scopedSems_eq defs main (fun _ => ops) main_eq (fun _ => ops_bufs) m ρ
      (fun _ => List.forall_iff_forall_mem.1 ops_fresh))

end Cert.ReferenceIdeal.Hand
end
-- ==== Proof.Nearest.lean ====
module

public import Idealize.ShloMosaic.Lib.Pointwise

@[expose] public section

noncomputable section

namespace Cert.Nearest

open Idealize.ShloMosaic

/-! # The nearest codeword, over the reals

The residual of a row is `ρ : Fin 64 → ℝ`, a codebook is `C : Fin 8192 → Fin 64 → ℝ`. -/

/-- The clamp of the squared distances, the real number that the printed constant denotes. -/
def eps : ℝ := (Ideal.ofBits FTy.f32 0x2B8CBCCC#32).toReal

/-- The clamp's constant, written out. -/
theorem eps_val : Ideal.ofBits FTy.f32 0x2B8CBCCC#32 = ((9223372 * (2 ^ 63)⁻¹ : ℝ) : EReal) := by
  simp [Ideal.ofBits, Ideal.ieee, -EReal.coe_mul]

/-- The clamp's constant is that real number. -/
theorem eps_coe : Ideal.ofBits FTy.f32 0x2B8CBCCC#32 = ((eps : ℝ) : EReal) := by
  unfold eps
  rw [eps_val, EReal.toReal_coe]

/-- The clamp is not negative. -/
theorem eps_nonneg : 0 ≤ eps := by
  unfold eps
  rw [eps_val, EReal.toReal_coe]
  positivity

/-- The constant 2. -/
theorem two_coe : Ideal.ofBits FTy.f32 0x40000000#32 = ((2 : ℝ) : EReal) := by
  simp [Ideal.ofBits, Ideal.ieee, -EReal.coe_mul]
  norm_num

/-- The constant -2. -/
theorem neg_two_coe : Ideal.ofBits FTy.f32 0xC0000000#32 = ((-2 : ℝ) : EReal) := by
  simp [Ideal.ofBits, Ideal.ieee, -EReal.coe_mul, -EReal.coe_neg]
  norm_num

/-- The constant +∞. -/
theorem inf_coe : Ideal.ofBits FTy.f32 0x7F800000#32 = (⊤ : EReal) := by
  simp [Ideal.ofBits, Ideal.ieee]

/-- The constant -∞. -/
theorem neg_inf_coe : Ideal.ofBits FTy.f32 0xFF800000#32 = (⊥ : EReal) := by
  simp [Ideal.ofBits, Ideal.ieee]

/-- A sum of reals, taken among the extended reals. -/
theorem coe_sum {ι : Type} (s : Finset ι) (f : ι → ℝ) : ((∑ k ∈ s, f k : ℝ) : EReal) = ∑ k ∈ s, ((f k : ℝ) : EReal) :=
  map_sum (⟨⟨((↑) : ℝ → EReal), EReal.coe_zero⟩, EReal.coe_add⟩ : ℝ →+ EReal) f s

/-- The squared distance of ρ to the codeword k. -/
def sq (ρ : Fin 64 → ℝ) (C : Fin 8192 → Fin 64 → ℝ) (k : Fin 8192) : ℝ :=
  ∑ d, ρ d * ρ d + ∑ d, C k d * C k d - 2 * ∑ d, ρ d * C k d

/-- The distance of ρ to the codeword k, the square clamped from below. -/
def dist (ρ : Fin 64 → ℝ) (C : Fin 8192 → Fin 64 → ℝ) (k : Fin 8192) : ℝ := Real.sqrt (max (sq ρ C k) eps)

/-- The root of a clamped real. -/
theorem sqrt_max (r : ℝ) : Ideal.sqrt (max ((r : ℝ) : EReal) ((eps : ℝ) : EReal)) = ((Real.sqrt (max r eps) : ℝ) : EReal) := by
  rw [← EReal.coe_strictMono.monotone.map_max, Ideal.sqrt_coe, if_neg (not_lt.2 (eps_nonneg.trans (le_max_right _ _)))]

/-- n is the first place at which f is least. -/
def Near (f : Fin 8192 → ℝ) (n : Fin 8192) : Prop := (∀ k, f n ≤ f k) ∧ ∀ k, f k = f n → n ≤ k

/-- Every f has a first place at which it is least. -/
theorem near_exists (f : Fin 8192 → ℝ) : ∃ n, Near f n := by
  obtain ⟨m, -, hm⟩ := Finset.exists_min_image Finset.univ f ⟨0, Finset.mem_univ _⟩
  have hne : (Finset.univ.filter fun k => f k = f m).Nonempty := ⟨m, by simp⟩
  obtain ⟨n, hn, hmin⟩ := Finset.exists_min_image (Finset.univ.filter fun k => f k = f m) id hne
  have hfn : f n = f m := (Finset.mem_filter.1 hn).2
  exact ⟨n, fun k => hfn ▸ hm k (Finset.mem_univ _), fun k hk => hmin k (Finset.mem_filter.2 ⟨Finset.mem_univ _, hk.trans hfn⟩)⟩

/-- The first place at which f is least. -/
def near (f : Fin 8192 → ℝ) : Fin 8192 := (near_exists f).choose

/-- The nearest place is a first least one. -/
theorem near_spec (f : Fin 8192 → ℝ) : Near f (near f) := (near_exists f).choose_spec

/-- There is one such place only. -/
theorem near_unique {f : Fin 8192 → ℝ} {n : Fin 8192} (h : Near f n) : n = near f := by
  have hs := near_spec f
  have he : f n = f (near f) := le_antisymm (h.1 _) (hs.1 _)
  exact le_antisymm (h.2 _ he.symm) (hs.2 _ he)

/-! ## The greatest logit, and the first place that holds it -/

/-- The greatest of the negatives of f is the negative at the first place at which f is least. -/
theorem fold_max (f : Fin 8192 → ℝ) :
    Finset.fold max (⊥ : EReal) (fun k => ((-f k : ℝ) : EReal)) Finset.univ = ((-f (near f) : ℝ) : EReal) := by
  apply le_antisymm
  · rw [Finset.fold_max_le]
    exact ⟨bot_le, fun k _ => EReal.coe_le_coe_iff.2 (neg_le_neg ((near_spec f).1 k))⟩
  · rw [Finset.le_fold_max]
    exact Or.inr ⟨near f, Finset.mem_univ _, le_rfl⟩

/-- A small number as a word, read signed. -/
theorem word_toInt {n : ℕ} (h : n ≤ 8192) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]

/-- The lesser of two words, read signed. -/
theorem minsi_toInt (x y : BitVec 32) : (IntOp.minsi x y).toInt = min x.toInt y.toInt := by
  unfold IntOp.minsi
  by_cases h : x.slt y = true
  · rw [if_pos h, min_eq_left (le_of_lt (BitVec.slt_iff_toInt_lt.1 h))]
  · rw [if_neg h, min_eq_right (not_lt.1 fun h' => h (BitVec.slt_iff_toInt_lt.2 h'))]

/-- The least of the places that hold the greatest of the negatives of f is the first place at which f is least. -/
theorem fold_min (f : Fin 8192 → ℝ) :
    Finset.fold IntOp.minsi (2147483647#32)
      (fun k : Fin 8192 => if ((-f k : ℝ) : EReal) = ((-f (near f) : ℝ) : EReal) then BitVec.ofNat 32 k.val else 8192#32) Finset.univ
      = BitVec.ofNat 32 (near f).val := by
  apply BitVec.eq_of_toInt_eq
  rw [word_toInt (by have := (near f).isLt; omega), ← Finset.fold_hom (op' := min) (m := BitVec.toInt) minsi_toInt]
  apply le_antisymm
  · rw [Finset.fold_min_le]
    refine Or.inr ⟨near f, Finset.mem_univ _, ?_⟩
    rw [if_pos rfl, word_toInt (by have := (near f).isLt; omega)]
  · rw [Finset.le_fold_min]
    refine ⟨by have := (near f).isLt; rw [show (2147483647#32 : BitVec 32).toInt = 2147483647 by decide]; omega, fun k _ => ?_⟩
    split
    · next h =>
      rw [word_toInt (by have := k.isLt; omega)]
      have := (near_spec f).2 k (by simpa using h)
      exact_mod_cast this
    · rw [show (8192#32 : BitVec 32).toInt = 8192 by decide]
      have := (near f).isLt
      omega

/-! ## The least distance, and its number, by a fold over pairs -/

/-- The order that a fold for the least value, then the least number, descends in. -/
def Le (a b : EReal × BitVec 32) : Prop := a.1 < b.1 ∨ (a.1 = b.1 ∧ a.2.toInt ≤ b.2.toInt)

/-- A pair is below itself. -/
theorem Le.refl (a : EReal × BitVec 32) : Le a a := Or.inr ⟨rfl, le_rfl⟩

/-- Being below is transitive. -/
theorem Le.trans {a b c : EReal × BitVec 32} (h : Le a b) (h' : Le b c) : Le a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A fold with an operation that gives one of its operands, below both, gives a pair below the first and below every
    pair of the list, and it is one of them. -/
theorem foldl_least (g : EReal × BitVec 32 → EReal × BitVec 32 → EReal × BitVec 32)
    (hg : ∀ a b, (g a b = a ∨ g a b = b) ∧ Le (g a b) a ∧ Le (g a b) b) (L : List (EReal × BitVec 32)) (a : EReal × BitVec 32) :
    (L.foldl g a = a ∨ L.foldl g a ∈ L) ∧ Le (L.foldl g a) a ∧ ∀ p ∈ L, Le (L.foldl g a) p := by
  induction L generalizing a with
  | nil => exact ⟨Or.inl rfl, Le.refl a, fun p hp => absurd hp List.not_mem_nil⟩
  | cons q L ih =>
    obtain ⟨h1, h2, h3⟩ := ih (g a q)
    obtain ⟨k1, k2, k3⟩ := hg a q
    rw [List.foldl_cons]
    refine ⟨?_, h2.trans k2, fun p hp => ?_⟩
    · rcases h1 with h1 | h1
      · rw [h1]
        rcases k1 with k1 | k1
        · exact Or.inl k1
        · exact Or.inr (by rw [k1]; exact List.mem_cons_self)
      · exact Or.inr (List.mem_cons_of_mem _ h1)
    · rcases List.mem_cons.1 hp with rfl | hp
      · exact h2.trans k3
      · exact h3 p hp

/-- Such a fold from (+∞, 0) over the pairs (f k, k) ends at the first place at which f is least. -/
theorem foldl_near (g : EReal × BitVec 32 → EReal × BitVec 32 → EReal × BitVec 32)
    (hg : ∀ a b, (g a b = a ∨ g a b = b) ∧ Le (g a b) a ∧ Le (g a b) b) (f : Fin 8192 → ℝ) (L : List (EReal × BitVec 32))
    (hL : ∀ p, p ∈ L ↔ ∃ k : Fin 8192, p = (((f k : ℝ) : EReal), BitVec.ofNat 32 k.val)) :
    (L.foldl g (⊤, 0#32)).2 = BitVec.ofNat 32 (near f).val := by
  obtain ⟨h1, -, h3⟩ := foldl_least g hg L (⊤, 0#32)
  have hne : L.foldl g (⊤, 0#32) ≠ (⊤, 0#32) := by
    intro h
    have := h3 _ ((hL _).2 ⟨0, rfl⟩)
    rw [h] at this
    rcases this with h' | ⟨h', -⟩
    · exact absurd h' not_top_lt
    · exact EReal.coe_ne_top _ h'.symm
  obtain ⟨n, hn⟩ := (hL _).1 (h1.resolve_left hne)
  rw [hn] at h3 ⊢
  have key : ∀ k, f n < f k ∨ (f n = f k ∧ n ≤ k) := fun k => by
    rcases h3 _ ((hL _).2 ⟨k, rfl⟩) with h | ⟨h, i⟩
    · exact Or.inl (EReal.coe_lt_coe_iff.1 h)
    · refine Or.inr ⟨EReal.coe_injective h, ?_⟩
      rw [word_toInt (by have := n.isLt; omega), word_toInt (by have := k.isLt; omega)] at i
      exact_mod_cast i
  have hnear : Near f n := ⟨fun k => (key k).elim le_of_lt fun h => h.1.le,
    fun k hk => (key k).elim (fun h => absurd hk (ne_of_gt h)) fun h => h.2⟩
  rw [near_unique hnear]

/-! ## One row of the codebook by a product with a row of zeros and a one -/

/-- The word that says whether x is the number n, as a number. -/
theorem onehot (x n : Fin 8192) :
    (FloatOps.sitofp FTy.f32 (BitVec.setWidth 32 (IntOp.cmpi CmpIPredicate.eq (BitVec.ofNat 32 x.val) (BitVec.ofNat 32 n.val))) : Ideal FTy.f32)
      = if x = n then (1 : EReal) else 0 := by
  by_cases h : x = n
  · subst h
    rw [if_pos rfl]
    simp only [IntOp.cmpi, beq_self_eq_true]
    change (((BitVec.setWidth 32 (BitVec.ofBool true)).toInt : ℝ) : EReal) = 1
    rw [show (BitVec.setWidth 32 (BitVec.ofBool true)).toInt = 1 by decide]
    norm_num
  · rw [if_neg h]
    have : (BitVec.ofNat 32 x.val == BitVec.ofNat 32 n.val) = false := by
      rw [beq_eq_false_iff_ne]
      intro e
      have := congrArg BitVec.toNat e
      simp only [BitVec.toNat_ofNat] at this
      have := x.isLt; have := n.isLt
      exact h (Fin.ext (by omega))
    simp only [IntOp.cmpi, this]
    change (((BitVec.setWidth 32 (BitVec.ofBool false)).toInt : ℝ) : EReal) = 0
    rw [show (BitVec.setWidth 32 (BitVec.ofBool false)).toInt = 0 by decide]
    norm_num

/-- The product of that row with the codebook's column is the codebook's entry. -/
theorem onehot_sum (n : Fin 8192) (c : Fin 8192 → EReal) :
    ∑ x : Fin 8192, (FloatOps.sitofp FTy.f32 (BitVec.setWidth 32 (IntOp.cmpi CmpIPredicate.eq (BitVec.ofNat 32 x.val) (BitVec.ofNat 32 n.val))) : Ideal FTy.f32) * (c x : Ideal FTy.f32)
      = c n := by
  rw [Finset.sum_eq_single n]
  · refine (congrArg (· * c n) ((onehot n n).trans (if_pos rfl))).trans (one_mul _)
  · intro x _ hx
    refine (congrArg (· * c x) ((onehot x n).trans (if_neg hx))).trans (zero_mul _)
  · exact fun h => absurd (Finset.mem_univ _) h

end Cert.Nearest
end
-- ==== Proof.Finite.lean ====
module

public import proofs.«01_k».proof.Proof.Gen.Pre_finite_arguments
public import proofs.«01_k».proof.Proof.Nearest

@[expose] public section

noncomputable section

namespace Cert.Finite

open Idealize.ShloMosaic

/-! # What the precondition says -/

/-- A conjunction of two bits is one only if both are. -/
theorem and_one {c d : BitVec 1} (h : IntOp.andi c d = 1#1) : c = 1#1 ∧ d = 1#1 := by
  revert c d; decide

/-- A conjunction along a list is one only if every bit is. -/
theorem foldl_and {α : Type} (x : α → BitVec 1) : ∀ (L : List α) (r : BitVec 1),
    L.foldl (fun r i => IntOp.andi r (x i)) r = 1#1 → r = 1#1 ∧ ∀ i ∈ L, x i = 1#1
  | [], r, h => ⟨h, fun _ hi => absurd hi List.not_mem_nil⟩
  | a :: L, r, h => by
    obtain ⟨h1, h2⟩ := foldl_and x L _ h
    obtain ⟨h3, h4⟩ := and_one h1
    refine ⟨h3, fun i hi => ?_⟩
    rcases List.mem_cons.1 hi with rfl | hi
    · exact h4
    · exact h2 i hi

/-- A conjunction of a whole array is one only if every bit is. -/
theorem all_one {s t u : Shape} {axes : List (Fin s.rank)} (x : s.Idx → BitVec 1) (init : u.Idx → BitVec 1) (h : s.ReducesTo axes t)
    (hu : 0 < u.numel) (j : t.Idx) (ht : t.rank = 0) (e : Host.reduce IntOp.andi x init h hu j = 1#1) (i : s.Idx) : x i = 1#1 := by
  rw [Host.reduce_eq_foldl] at e
  refine (foldl_and x _ _ e).2 i (List.mem_filter.2 ⟨List.mem_map.2 ⟨s.rowMajor i, List.mem_finRange _, Equiv.symm_apply_apply _ _⟩, ?_⟩)
  exact decide_eq_true (funext fun b => absurd b.isLt (by omega))

/-- A value whose absolute value is below +∞ is a real number. -/
theorem real_of (a : EReal) (h : Ideal.cmp CmpFPredicate.olt (max a (-a)) (Ideal.ofBits FTy.f32 0x7F800000#32) = 1#1) :
    a = ((a.toReal : ℝ) : EReal) := by
  rw [Nearest.inf_coe] at h
  have h' : max a (-a) < ⊤ := by
    by_contra hn
    simp [Ideal.cmp, hn] at h
  refine (EReal.coe_toReal (fun e => ?_) (fun e => ?_)).symm
  · subst e; simp at h'
  · subst e; simp at h'

variable {x : FVec Ideal Pre_finite_arguments.S4096x64 .f32} {w : FVec Ideal Pre_finite_arguments.S64x64 .f32}
  {b : FVec Ideal Pre_finite_arguments.S64 .f32} {cb : FVec Ideal Pre_finite_arguments.S8x8192x64 .f32}

/-- Under the precondition every element of the four arguments is a real number. -/
theorem finite (h : Pre_finite_arguments.fn (F := Ideal) x w b cb = fun _ => 1#1) :
    (∀ i, x i = ((EReal.toReal (x i) : ℝ) : EReal)) ∧ (∀ i, w i = ((EReal.toReal (w i) : ℝ) : EReal))
      ∧ (∀ i, b i = ((EReal.toReal (b i) : ℝ) : EReal)) ∧ (∀ i, cb i = ((EReal.toReal (cb i) : ℝ) : EReal)) := by
  have h0 := congrFun h (Shape.Idx.first Pre_finite_arguments.Gen.h_S_)
  obtain ⟨h123, h4⟩ := and_one h0
  obtain ⟨h12, h3⟩ := and_one h123
  obtain ⟨h1, h2⟩ := and_one h12
  exact ⟨fun i => real_of _ (all_one _ _ _ _ _ rfl h1 i), fun i => real_of _ (all_one _ _ _ _ _ rfl h2 i),
    fun i => real_of _ (all_one _ _ _ _ _ rfl h3 i), fun i => real_of _ (all_one _ _ _ _ _ rfl h4 i)⟩

end Cert.Finite
end
-- ==== Proof.Final.lean ====
module

public import proofs.«01_k».proof.Proof.Frame

@[expose] public section

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat Cfg)

section last
variable {nD' : Nat} {τ' : Topo} {sig' : RefSig} {Val : EltTy → Type}
variable {Ix : Type} [DecidableEq Ix] {Name : Type} [DecidableEq Name] {U : Type} [RA.URA U] {Lvl : Type}
variable {Λ₀ : Sem.Labels} {cfg : Cfg sig' Λ₀} {c : Dev nD'} (dat : Dat τ' Val Ix Name U Lvl cfg c)

/-- The last write wins: an element in the block that point t writes back, and that no later point writes, holds after any
number of points past t what t wrote there. -/
theorem arrAt_last (w : Fin cfg.W) (t : Fin cfg.N) (hf : (cfg.win w).flush t = true)
    (y : ((cfg.win w).xblock (cfg.grid.coords t)).Idx)
    (hlast : ∀ u : Fin cfg.N, t.val < u.val → ((cfg.win w).blk t).view.emb y ∉ ((cfg.win w).blk u).view.set) :
    ∀ n, t.val < n → dat.arrAt w n (((cfg.win w).blk t).view.emb y)
      = _root_.cast (congrArg Val ((cfg.win w).blk t).view.elt_eq.symm) (dat.flushed w t y)
  | 0, h => absurd h (Nat.not_lt_zero _)
  | n + 1, h => by
    rw [dat.arrAt_succ_apply]
    by_cases hn : n < cfg.N
    swap
    · rw [dif_neg hn]
      exact arrAt_last w t hf y hlast n (by have := t.isLt; omega)
    rw [dif_pos hn]
    by_cases htn : t.val = n
    · subst htn
      rw [if_pos hf]
      have h := congrFun (View.read_write_univ (v := ((cfg.win w).blk t).view) (Val := Val) (dat.arrAt w t.val) (dat.flushed w t)) y
      rw [View.read_apply] at h
      rw [← h, cast_cast, cast_eq]
    · by_cases hfn : (cfg.win w).flush ⟨n, hn⟩ = true
      · rw [if_pos hfn, View.write_of_not_mem _ _ _ (hlast ⟨n, hn⟩ (by show t.val < n; omega))]
        exact arrAt_last w t hf y hlast n (by omega)
      · rw [if_neg hfn]
        exact arrAt_last w t hf y hlast n (by omega)
end last

variable {F : FTy → Type} [FloatOps F] [∀ e, Nonempty (Elt F e)]

variable (m : (ℓ : Loc nD τ sig) → Buf (Elt F) ℓ) (ρ : Dev nD → PrngReg)

/-- The corner of the block of logits that point t writes. -/
theorem emb4 (t : Fin cfg0.N) (y : S128x8192.Idx) (a : Fin 2) :
    ((((cfg0.win 4).blk t).view.emb y : S4096x65536.Idx) a).val = ![128 * (t.val % 32) + (y 0).val, 8192 * (t.val / 32) + (y 1).val] a := by
  have hw := word32 (grid0.coords t 1)
  have hw' := word8 (grid0.coords t 0)
  rw [coord1] at hw
  rw [coord0] at hw'
  match a with
  | ⟨0, _⟩ =>
    show (BitVec.ofNat 32 ((grid0.coords t) 1).val).toNat * 128 + 1 * (y 0).val = 128 * (t.val % 32) + (y 0).val
    rw [coord1]; omega
  | ⟨1, _⟩ =>
    show (BitVec.ofNat 32 ((grid0.coords t) 0).val).toNat * 8192 + 1 * (y 1).val = 8192 * (t.val / 32) + (y 1).val
    rw [coord0]; omega

/-- The place of the block of the sum of the codewords that point t writes. -/
theorem emb5 (t : Fin cfg0.N) (y : S128x64.Idx) (a : Fin 2) :
    ((((cfg0.win 5).blk t).view.emb y : S4096x64.Idx) a).val = ![128 * (t.val % 32) + (y 0).val, (y 1).val] a := by
  have hw := word32 (grid0.coords t 1)
  rw [coord1] at hw
  match a with
  | ⟨0, _⟩ =>
    show (BitVec.ofNat 32 ((grid0.coords t) 1).val).toNat * 128 + 1 * (y 0).val = 128 * (t.val % 32) + (y 0).val
    rw [coord1]; omega
  | ⟨1, _⟩ => show 0 * 64 + 1 * (y 1).val = (y 1).val; omega

/-- No later point writes an element of the logits again. -/
theorem once4 (t u : Fin cfg0.N) (htu : t.val < u.val) (y : S128x8192.Idx) :
    ((cfg0.win 4).blk t).view.emb y ∉ ((cfg0.win 4).blk u).view.set := by
  intro h
  obtain ⟨z, hz⟩ := View.exists_emb_of_mem_set _ h
  have h0 := congrArg (fun i : S4096x65536.Idx => (i 0).val) hz
  have h1 := congrArg (fun i : S4096x65536.Idx => (i 1).val) hz
  have e0 := emb4 t y 0
  have e1 := emb4 t y 1
  have f0 := emb4 u z 0
  have f1 := emb4 u z 1
  have := (y 0).isLt
  have := (y 1).isLt
  have := (z 0).isLt
  have := (z 1).isLt
  have := lt256 t
  have := lt256 u
  simp only [Matrix.cons_val_zero, Matrix.cons_val_one] at e0 e1 f0 f1 h0 h1
  rw [e0, f0] at h0
  rw [e1, f1] at h1
  have b0 : (y 0).val < 128 := (y 0).isLt
  have b1 : (y 1).val < 8192 := (y 1).isLt
  have d0 : (z 0).val < 128 := (z 0).isLt
  have d1 : (z 1).val < 8192 := (z 1).isLt
  omega

/-- After a row block's point of the last level no point writes that row block of the sum again. -/
theorem once5 (t u : Fin cfg0.N) (ht : 224 ≤ t.val) (htu : t.val < u.val) (y : S128x64.Idx) :
    ((cfg0.win 5).blk t).view.emb y ∉ ((cfg0.win 5).blk u).view.set := by
  intro h
  obtain ⟨z, hz⟩ := View.exists_emb_of_mem_set _ h
  have h0 := congrArg (fun i : S4096x64.Idx => (i 0).val) hz
  have e0 := emb5 t y 0
  have f0 := emb5 u z 0
  have := lt256 t
  have := lt256 u
  simp only [Matrix.cons_val_zero] at e0 f0 h0
  rw [e0, f0] at h0
  have b0 : (y 0).val < 128 := (y 0).isLt
  have d0 : (z 0).val < 128 := (z 0).isLt
  omega

/-- An element of the logits ends at what its level's block has there. -/
theorem final_logits {r : PUnit × MemSt nD τ sig (Elt F)} (h : Pipeline.RDat.FramePost (cfgs 0) (fun c => rdat m c) (V m) r)
    (c : Dev nD) (t : Fin cfg0.N) (y : S128x8192.Idx) :
    (r.2.mem ((c.tc : Thread nD τ).loc main_v1_0) : S4096x65536.Idx → F .f32) (((cfg0.win 4).blk t).view.emb y)
      = LB m c (t.val / 32) (t.val % 32) y := by
  obtain ⟨after, hL, hA⟩ := RDat.FramePost.exists_exact h c
  have hl := hL 4 t (flush0_4 t)
  have e : after 4 t = LB m c (t.val / 32) (t.val % 32) := by
    obtain ⟨_, _, hX⟩ := hl
    rw [Dat.toRRel_after_of_eq_false (dats m 0 c) (fgt := marked) (Rl := Rl m c) (w := 4) rfl] at hX
    have hX' : (dats m 0 c).Leaves 4 t (after 4 t) := hX
    rw [Dat.Leaves.live_iff _ (.inr (flush0_4 t))] at hX'
    exact hX'.trans (after_4 m c t)
  refine (congrFun (hA 4) _).trans ?_
  refine (arrAt_last ((rdat m c).withAfter after) 4 t (flush0_4 t) y (fun u hu => once4 t u hu y) _ t.isLt).trans ?_
  rw [← e]; rfl

/-- An element of the sum of the codewords ends at what its row block has there. -/
theorem final_q {r : PUnit × MemSt nD τ sig (Elt F)} (h : Pipeline.RDat.FramePost (cfgs 0) (fun c => rdat m c) (V m) r)
    (c : Dev nD) (t : Fin cfg0.N) (h7 : 224 ≤ t.val) (y : S128x64.Idx) :
    (r.2.mem ((c.tc : Thread nD τ).loc main_v1_1) : S4096x64.Idx → F .f32) (((cfg0.win 5).blk t).view.emb y)
      = QB m c (t.val % 32) y := by
  obtain ⟨after, hL, hA⟩ := RDat.FramePost.exists_exact h c
  have e : after 5 t = QB m c (t.val % 32) :=
    Dat.toRRel_leaves (dats m 0 c) (fgt := marked) (Rl := Rl m c) (w := 5) rfl (hL 5 t (flush0_5 t)) h7
  refine (congrFun (hA 5) _).trans ?_
  refine (arrAt_last ((rdat m c).withAfter after) 5 t (flush0_5 t) y (fun u hu => once5 t u h7 hu y) _ t.isLt).trans ?_
  rw [← e]; rfl

end Cert.KernelIdeal.Hand
end
-- ==== Proof.ValKernel.lean ====
module

public import proofs.«01_k».proof.Proof.Body
public import proofs.«01_k».proof.Proof.Nearest

@[expose] public section

noncomputable section

namespace Cert.KernelIdeal.Hand

open Cert.KernelIdeal Cert.KernelIdeal.Gen
open Idealize.ShloMosaic Cert.Nearest

/-! # The kernel's values at finite operands -/

/-- The projection, at a row and a coordinate. -/
theorem pay6_apply (x : Vec Ideal S128x64 .f32) (w : Vec Ideal S64x64 .f32) (b : Vec Ideal S1x64 .f32) (a : Fin 128) (d : Fin 64) :
    k0_pay6 x w b (ix2 a d) = ∑ e, x (ix2 a e) * w (ix2 e d) + b (ix2 0 d) := by
  pointwise [k0_pay6]

/-- The projection that the kernel keeps. -/
theorem pay7_apply (x : Vec Ideal S128x64 .f32) (w : Vec Ideal S64x64 .f32) (b : Vec Ideal S1x64 .f32) (a : Fin 128) (d : Fin 64) :
    k0_pay7 x w b (ix2 a d) = ∑ e, x (ix2 a e) * w (ix2 e d) + b (ix2 0 d) := by
  pointwise [k0_pay7, k0_pay6]

/-- The residual that the kernel starts from. -/
theorem pay8_apply (x : Vec Ideal S128x64 .f32) (w : Vec Ideal S64x64 .f32) (b : Vec Ideal S1x64 .f32) (a : Fin 128) (d : Fin 64) :
    k0_pay8 x w b (ix2 a d) = ∑ e, x (ix2 a e) * w (ix2 e d) + b (ix2 0 d) := by
  pointwise [k0_pay8, k0_pay6]

/-- The codebook transposed. -/
theorem pay4_apply (cb : Vec Ideal S1x8192x64 .f32) (k : Fin 8192) (d : Fin 64) : k0_pay4 cb (ix2 d k) = cb (ix3 0 k d) := by
  pointwise [k0_pay4, k0_pay3]

/-- The squared norms of the codewords. -/
theorem pay5_apply (cb : Vec Ideal S1x8192x64 .f32) (k : Fin 8192) :
    k0_pay5 cb (ix2 0 k) = ∑ d, cb (ix3 0 k d) * cb (ix3 0 k d) := by
  pointwise [k0_pay5, k0_pay3]

/-- The last payload: the features less the last residual. -/
theorem pay2_apply (x r : Vec Ideal S128x64 .f32) (a : Fin 128) (d : Fin 64) :
    k0_pay2 x r (ix2 a d) = x (ix2 a d) - r (ix2 a d) := by
  pointwise [k0_pay2]

variable {r : Vec Ideal S128x64 .f32} {cb : Vec Ideal S1x8192x64 .f32} {a : Fin 128} {ρ : Fin 64 → ℝ} {C : Fin 8192 → Fin 64 → ℝ}

/-- The logits of a row are the negatives of the distances. -/
theorem pay9_real (hr : ∀ d, r (ix2 a d) = ((ρ d : ℝ) : EReal)) (hC : ∀ k d, cb (ix3 0 k d) = ((C k d : ℝ) : EReal)) (k : Fin 8192) :
    k0_pay9 r (k0_pay4 cb) (k0_pay5 cb) (ix2 a k) = ((-dist ρ C k : ℝ) : EReal) := by
  have h : k0_pay9 r (k0_pay4 cb) (k0_pay5 cb) (ix2 a k) = 0 - Ideal.sqrt (max
      (∑ x, r (ix2 a x) * r (ix2 a x) + k0_pay5 cb (ix2 0 k) + ∑ x, r (ix2 a x) * Ideal.ofBits FTy.f32 3221225472#32 * k0_pay4 cb (ix2 x k))
      (Ideal.ofBits FTy.f32 730643660#32)) := by
    pointwise [k0_pay9]
  rw [h, pay5_apply, eps_coe]
  simp only [pay4_apply, hr, hC, neg_two_coe, ← EReal.coe_mul, ← coe_sum, ← EReal.coe_add]
  rw [sqrt_max, zero_sub, ← EReal.coe_neg]
  congr 4
  unfold Nearest.sq
  rw [sub_eq_add_neg, ← neg_mul, Finset.mul_sum]
  congr 1
  exact Finset.sum_congr rfl fun x _ => by ring

/-- The number that the kernel finds is the nearest codeword's. -/
theorem pay10_real (hr : ∀ d, r (ix2 a d) = ((ρ d : ℝ) : EReal)) (hC : ∀ k d, cb (ix3 0 k d) = ((C k d : ℝ) : EReal)) :
    k0_pay10 r (k0_pay4 cb) (k0_pay5 cb) (ix1 a) = BitVec.ofNat 32 (near (dist ρ C)).val := by
  have h : k0_pay10 r (k0_pay4 cb) (k0_pay5 cb) (ix1 a) = Finset.fold IntOp.minsi (2147483647#32)
      (fun x : Fin 8192 => if k0_pay9 r (k0_pay4 cb) (k0_pay5 cb) (ix2 a x) =
          Finset.fold max (Ideal.ofBits FTy.f32 4286578688#32) (fun x : Fin 8192 => k0_pay9 r (k0_pay4 cb) (k0_pay5 cb) (ix2 a x)) Finset.univ
        then BitVec.ofNat 32 x.val else 8192#32) Finset.univ := by
    pointwise [k0_pay10]
  rw [h, neg_inf_coe]
  simp only [pay9_real hr hC]
  rw [fold_max, fold_min]

/-- The next residual of a row is the residual less the nearest codeword. -/
theorem next_real (hr : ∀ d, r (ix2 a d) = ((ρ d : ℝ) : EReal)) (hC : ∀ k d, cb (ix3 0 k d) = ((C k d : ℝ) : EReal)) (d : Fin 64) :
    nextOf r (k0_pay4 cb) (k0_pay5 cb) cb (ix2 a d) = ((ρ d - C (near (dist ρ C)) d : ℝ) : EReal) := by
  have h : ∀ ids : IVec S128 32, k0_pay1 r cols ids cb (ix2 a d) = r (ix2 a d) - ∑ x : Fin 8192,
        (FloatOps.sitofp FTy.f32 (BitVec.setWidth 32 (IntOp.cmpi CmpIPredicate.eq (BitVec.ofNat 32 x.val) (ids (ix1 a)))) : Ideal FTy.f32) *
          (cb (ix3 0 x d) : Ideal FTy.f32) := fun ids => by
    pointwise [k0_pay1, cols]
  unfold nextOf
  rw [h, pay10_real hr hC, onehot_sum (near (dist ρ C)) fun x => cb (ix3 0 x d), hr, hC, ← EReal.coe_sub]

end Cert.KernelIdeal.Hand
end
-- ==== Proof.Search.lean ====
module

public import proofs.«01_k».proof.Proof.Nearest

@[expose] public section

noncomputable section

namespace Cert.Nearest

open Idealize.ShloMosaic

/-! # A search by a two-operand reduction -/

/-- A search whose reducer gives the lesser operand, from (+∞, 0), over the values f at the places e: it ends at the first
place at which f is least. -/
theorem search_near {s t u : Shape} {axes : List (Fin s.rank)}
    (g : Ideal FTy.f32 × BitVec 32 → Ideal FTy.f32 × BitVec 32 → Ideal FTy.f32 × BitVec 32)
    (hg : ∀ a b : EReal × BitVec 32, (g a b = a ∨ g a b = b) ∧ Le (g a b) a ∧ Le (g a b) b)
    (x : FVec Ideal s .f32) (y : s.Idx → BitVec 32) (ix : u.Idx → Ideal FTy.f32) (iy : u.Idx → BitVec 32)
    (h : s.ReducesTo axes t) (hu : 0 < u.numel) (j : t.Idx) (e : Fin 8192 → s.Idx)
    (he : ∀ i, h.drop i = j ↔ ∃ k, e k = i) (f : Fin 8192 → ℝ)
    (hx : ∀ k, x (e k) = ((f k : ℝ) : EReal)) (hy : ∀ k, y (e k) = BitVec.ofNat 32 k.val)
    (hix : ix (Shape.Idx.first hu) = (⊤ : EReal)) (hiy : iy (Shape.Idx.first hu) = 0#32) :
    (Host.argReduce g x y ix iy h hu j).2 = BitVec.ofNat 32 (near f).val := by
  rw [Ideal.argReduce_eq_reduce2, Host.reduce2_eq_foldl_fiber, hix, hiy]
  refine foldl_near g hg f _ fun p => ?_
  simp only [Host.argReduceFiber, List.mem_map, List.mem_filter, List.mem_finRange, true_and, decide_eq_true_eq]
  constructor
  · rintro ⟨n, hn, rfl⟩
    obtain ⟨k, hk⟩ := (he _).1 hn
    refine ⟨k, ?_⟩
    rw [← hk]
    exact Prod.ext (hx k) (hy k)
  · rintro ⟨k, rfl⟩
    refine ⟨s.rowMajor (e k), ?_, ?_⟩
    · rw [Equiv.symm_apply_apply]
      exact (he _).2 ⟨k, rfl⟩
    · rw [Equiv.symm_apply_apply]
      exact Prod.ext (hx k) (hy k)

end Cert.Nearest
end
-- ==== Proof.ValRef.lean ====
module

public import proofs.«01_k».proof.Proof.RefRun
public import proofs.«01_k».proof.Proof.Search
public import Idealize.ShloMosaic.Lib.Routing.Ops

@[expose] public section

noncomputable section

namespace Cert.ReferenceIdeal.Hand

open Cert.ReferenceIdeal Cert.ReferenceIdeal.Gen
open Idealize.ShloMosaic Cert.Nearest

/-! # The reference's values at finite operands -/

/-- The projection, at a row and a coordinate. -/
theorem proj_apply (x : Vec Ideal S4096x64 .f32) (w : Vec Ideal S64x64 .f32) (b : Vec Ideal S64 .f32) (a : Fin 4096) (d : Fin 64) :
    projOf x w b (ix2 a d) = ∑ e, x (ix2 a e) * w (ix2 e d) + b (ix1 d) := by
  pointwise [projOf]

/-- The codebook of a level. -/
theorem cbk_apply (l : ℕ) (cb : Vec Ideal S8x8192x64 .f32) (k : Fin 8192) (d : Fin 64) :
    cbkAt l cb (ix2 k d) = cb (ix3 ⟨l % 8, Nat.mod_lt _ (by decide)⟩ k d) := by
  pointwise [cbkAt, cbkOf]

/-- The array of zeros. -/
theorem zero_apply (a : Fin 4096) (d : Fin 64) : (zeroOf (F := Ideal)) (ix2 a d) = 0 := by
  pointwise [zeroOf]

variable {r : Vec Ideal S4096x64 .f32} {K : Vec Ideal S8192x64 .f32} {a : Fin 4096} {ρ : Fin 64 → ℝ} {C : Fin 8192 → Fin 64 → ℝ}

/-- The distances of a row. -/
theorem dist_real (hr : ∀ d, r (ix2 a d) = ((ρ d : ℝ) : EReal)) (hC : ∀ k d, K (ix2 k d) = ((C k d : ℝ) : EReal)) (k : Fin 8192) :
    distOf r K (ix2 a k) = ((dist ρ C k : ℝ) : EReal) := by
  have h : distOf r K (ix2 a k) = Ideal.sqrt (max
        (∑ x, r (ix2 a x) * r (ix2 a x) + ∑ x, K (ix2 k x) * K (ix2 k x) -
          Ideal.ofBits FTy.f32 1073741824#32 * ∑ x, r (ix2 a x) * K (ix2 k x))
        (Ideal.ofBits FTy.f32 730643660#32)) := by
    pointwise [distOf, sqOf]
  rw [h, eps_coe]
  simp only [hr, hC, two_coe, ← EReal.coe_mul, ← coe_sum, ← EReal.coe_add, ← EReal.coe_sub]
  rw [sqrt_max]
  rfl

/-- The reducer of the search gives one of its operands, below both. -/
theorem reducer_least (p q : EReal × BitVec 32) :
    (reducer_argmin_f32_i32 (F := Ideal) p q = p ∨ reducer_argmin_f32_i32 (F := Ideal) p q = q)
      ∧ Le (reducer_argmin_f32_i32 (F := Ideal) p q) p ∧ Le (reducer_argmin_f32_i32 (F := Ideal) p q) q := by
  obtain ⟨x, i⟩ := p
  obtain ⟨y, j⟩ := q
  have h : reducer_argmin_f32_i32 (F := Ideal) (x, i) (y, j)
      = (if x < y then x else y, if x < y ∨ (x = y ∧ i.toInt < j.toInt) then i else j) := by
    have hs : i.slt j = decide (i.toInt < j.toInt) := by
      rw [Bool.eq_iff_iff, decide_eq_true_iff, BitVec.slt_iff_toInt_lt]
    change (Scalar.select (BitVec.ofBool (decide (x < y)) ||| BitVec.ofBool (decide (x ≠ x))) x y,
        Scalar.select (BitVec.ofBool (decide (x < y)) ||| BitVec.ofBool (decide (x ≠ x)) |||
          BitVec.ofBool (decide (x = y)) &&& BitVec.ofBool (i.slt j)) i j) = _
    rw [hs]
    by_cases h1 : x < y <;> by_cases h2 : x = y <;> by_cases h3 : i.toInt < j.toInt <;> simp [Scalar.select, h1, h2, h3]
  rw [h]
  rcases lt_trichotomy x y with h1 | h1 | h1
  · rw [if_pos h1, if_pos (Or.inl h1)]
    exact ⟨Or.inl rfl, Le.refl _, Or.inl h1⟩
  · subst h1
    rw [if_neg (lt_irrefl x)]
    by_cases h3 : i.toInt < j.toInt
    · rw [if_pos (Or.inr ⟨rfl, h3⟩)]
      exact ⟨Or.inl rfl, Le.refl _, Or.inr ⟨rfl, h3.le⟩⟩
    · rw [if_neg (by simp [h3])]
      exact ⟨Or.inr rfl, Or.inr ⟨rfl, not_lt.1 h3⟩, Le.refl _⟩
  · rw [if_neg h1.not_gt, if_neg (by simp [h1.not_gt, h1.ne'])]
    exact ⟨Or.inr rfl, Or.inl h1, Le.refl _⟩

/-- The numbers found, as the search that gives them. -/
theorem ids_eq {F : FTy → Type} [FloatOps F] (D : Vec F S4096x8192 .f32) : idsOf D = fun j =>
    (Host.argReduce reducer_argmin_f32_i32 D (iotaInDim S4096x8192 32 1) (constant S_ .f32 0x7F800000#32) (constantI S_ 32 0#32)
      reducesTo_S4096x8192_S4096_d1 h_S_ j).2 := rfl

/-- The search along a row of real numbers ends at the first least one. -/
theorem search_real {D : Vec Ideal S4096x8192 .f32} {f : Fin 8192 → ℝ} (hD : ∀ k, D (ix2 a k) = ((f k : ℝ) : EReal)) :
    (Host.argReduce (reducer_argmin_f32_i32 (F := Ideal)) D (iotaInDim S4096x8192 32 1) (constant S_ .f32 0x7F800000#32)
      (constantI S_ 32 0#32) reducesTo_S4096x8192_S4096_d1 h_S_ (ix1 a)).2 = BitVec.ofNat 32 (near f).val :=
  search_near _ reducer_least D _ _ _ reducesTo_S4096x8192_S4096_d1 h_S_ (ix1 a) (fun k => ix2 a k)
    (fun i => Shape.ReducesTo.fiber_r2_a1 reducesTo_S4096x8192_S4096_d1 (ix1 a) i) f hD (fun k => rfl) inf_coe rfl

/-- The number that the reference finds is the nearest codeword's. -/
theorem ids_real {D : Vec Ideal S4096x8192 .f32} {f : Fin 8192 → ℝ} (hD : ∀ k, D (ix2 a k) = ((f k : ℝ) : EReal)) :
    idsOf D (ix1 a) = BitVec.ofNat 32 (near f).val :=
  (congrFun (ids_eq D) (ix1 a)).trans (search_real hD)

/-- A number of a codeword is not changed by the wrap. -/
theorem wrap_real {ids : IVec S4096 32} {n : Fin 8192} (h : ids (ix1 a) = BitVec.ofNat 32 n.val) (z : Fin 1) :
    wrapOf ids (ix2 a z) = BitVec.ofNat 32 n.val := by
  have e : wrapOf ids (ix2 a z) = Scalar.select (IntOp.cmpi CmpIPredicate.slt (ids (ix1 a)) 0#32) (IntOp.addi (ids (ix1 a)) 8192#32) (ids (ix1 a)) := by
    pointwise [wrapOf]
  have hs : (BitVec.ofNat 32 n.val).slt 0#32 = false := by
    rw [Bool.eq_false_iff, ne_eq, BitVec.slt_iff_toInt_lt, word_toInt (by have := n.isLt; omega)]
    simp
  rw [e, h]
  simp [IntOp.cmpi, Scalar.select, hs]

/-- A number of a codeword is inside. -/
theorem inside_real {w : IVec S4096x1 32} {n : Fin 8192} (h : ∀ z, w (ix2 a z) = BitVec.ofNat 32 n.val) : insideOf w (ix1 a) = 1#1 := by
  have e : insideOf w (ix1 a) = Finset.fold IntOp.andi (1#1) (fun x : Fin 1 => IntOp.andi (IntOp.cmpi CmpIPredicate.sge (w (ix2 a x)) 0#32)
          (IntOp.cmpi CmpIPredicate.sle (w (ix2 a x)) 8191#32)) Finset.univ := by
    pointwise [insideOf]
  have h1 : (0#32).sle (BitVec.ofNat 32 n.val) = true := by
    rw [BitVec.sle_iff_toInt_le, show (0#32 : BitVec 32).toInt = 0 by decide, word_toInt (by have := n.isLt; omega)]
    omega
  have h2 : (BitVec.ofNat 32 n.val).sle 8191#32 = true := by
    rw [BitVec.sle_iff_toInt_le, word_toInt (by have := n.isLt; omega), show (8191#32 : BitVec 32).toInt = 8191 by decide]
    have := n.isLt
    omega
  rw [e]
  simp only [h, IntOp.cmpi, h1, h2]
  decide

/-- The codeword taken is the one that the number names. -/
theorem take_real {ids : IVec S4096 32} {n : Fin 8192} (h : ids (ix1 a) = BitVec.ofNat 32 n.val) (d : Fin 64) :
    takeOf K ids (ix2 a d) = K (ix2 n d) := by
  have e : takeOf K ids (ix2 a d) = Scalar.select (insideOf (wrapOf ids) (ix1 a))
      (Host.gather gather_S8192x64_S4096x1_S4096x64_1_0_n_n_0_1_164 K (wrapOf ids) (ix2 a d)) (Ideal.ofBits FTy.f32 2143289344#32) := by
    pointwise [takeOf]
  rw [e, inside_real (wrap_real h)]
  change Host.gather gather_S8192x64_S4096x1_S4096x64_1_0_n_n_0_1_164 K (wrapOf ids) (ix2 a d) = K (ix2 n d)
  exact Routing.gather_row gather_S8192x64_S4096x1_S4096x64_1_0_n_n_0_1_164 rfl rfl rfl rfl rfl K (wrapOf ids) a d n (wrap_real h 0) (by decide)

end Cert.ReferenceIdeal.Hand
end
-- ==== Proof.ValCat.lean ====
module

public import proofs.«01_k».proof.Proof.RefRun
public import Idealize.ShloMosaic.Lib.Pointwise

@[expose] public section

noncomputable section

namespace Cert.ReferenceIdeal.Hand

open Cert.ReferenceIdeal Cert.ReferenceIdeal.Gen
open Idealize.ShloMosaic

/-! # The logits side by side -/

/-- The logits side by side, at a level and a codeword. -/
theorem cat_apply (u : ℕ → Vec Ideal S4096x8192 .f32) (a : Fin 4096) (l : Fin 8) (k : Fin 8192) :
    catOf u (ix2 a ⟨8192 * l.val + k.val, by have := l.isLt; have := k.isLt; omega⟩) = u l.val (ix2 a k) := by
  pointwise [catOf, colOf]
  have h1 : (8192 * l.val + k.val) / 8192 = l.val := by have := k.isLt; omega
  have h2 : (8192 * l.val + k.val) % 8192 = k.val := by have := k.isLt; omega
  obtain ⟨l, hl⟩ := l
  interval_cases l <;> rfl

end Cert.ReferenceIdeal.Hand
end
-- ==== Proof.Levels.lean ====
module

public import proofs.«01_k».proof.Proof.ValRef
public import proofs.«01_k».proof.Proof.ValCat

@[expose] public section

noncomputable section

/-! # The levels, over the real numbers, and the reference's results by them -/

namespace Cert.Nearest

/-- The residual of a row before level l: what is left of the row when the nearest codeword of each level before l is taken. -/
def rho (C : Fin 8 → Fin 8192 → Fin 64 → ℝ) (p : Fin 64 → ℝ) : ℕ → Fin 64 → ℝ
  | 0 => p
  | l + 1 => fun d => rho C p l d - C ⟨l % 8, Nat.mod_lt _ (by decide)⟩ (near (dist (rho C p l) (C ⟨l % 8, Nat.mod_lt _ (by decide)⟩))) d

end Cert.Nearest

namespace Cert.ReferenceIdeal.Hand

open Cert.ReferenceIdeal Cert.ReferenceIdeal.Gen
open Idealize.ShloMosaic Cert.Nearest

variable {x : Vec Ideal S4096x64 .f32} {cb : Vec Ideal S8x8192x64 .f32} {a : Fin 4096} {p : Fin 64 → ℝ} {C : Fin 8 → Fin 8192 → Fin 64 → ℝ}

/-- The codebook of a level, of real numbers. -/
theorem cbk_real (hC : ∀ l k d, cb (ix3 l k d) = ((C l k d : ℝ) : EReal)) (l : ℕ) (k : Fin 8192) (d : Fin 64) :
    cbkAt l cb (ix2 k d) = ((C ⟨l % 8, Nat.mod_lt _ (by decide)⟩ k d : ℝ) : EReal) := by
  rw [cbk_apply, hC]

/-- The reference's residuals. -/
theorem res_real (hx : ∀ d, x (ix2 a d) = ((p d : ℝ) : EReal)) (hC : ∀ l k d, cb (ix3 l k d) = ((C l k d : ℝ) : EReal)) :
    ∀ (l : ℕ) (d : Fin 64), resR cb x l (ix2 a d) = ((rho C p l d : ℝ) : EReal)
  | 0, d => hx d
  | l + 1, d => by
    have ih := res_real hx hC l
    change (resR cb x l (ix2 a d) : EReal) - takeOf (cbkAt l cb) (idsOf (distOf (resR cb x l) (cbkAt l cb))) (ix2 a d) = _
    rw [take_real (ids_real (dist_real ih (cbk_real hC l))), cbk_real hC, ih, ← EReal.coe_sub]
    rfl

/-- The reference's sums: what the levels have taken. -/
theorem sum_real (hx : ∀ d, x (ix2 a d) = ((p d : ℝ) : EReal)) (hC : ∀ l k d, cb (ix3 l k d) = ((C l k d : ℝ) : EReal)) :
    ∀ (l : ℕ) (d : Fin 64), sumR cb x l (ix2 a d) = ((p d - rho C p l d : ℝ) : EReal)
  | 0, d => by
    change zeroOf (F := Ideal) (ix2 a d) = ((p d - p d : ℝ) : EReal)
    rw [zero_apply, sub_self, EReal.coe_zero]
  | l + 1, d => by
    change (sumR cb x l (ix2 a d) : EReal) + takeOf (cbkAt l cb) (idsOf (distOf (resR cb x l) (cbkAt l cb))) (ix2 a d) = _
    rw [take_real (ids_real (dist_real (res_real hx hC l) (cbk_real hC l))), cbk_real hC, sum_real hx hC l d, ← EReal.coe_add]
    congr 1
    change p d - rho C p l d + _ = p d - (rho C p l d - _)
    ring

/-- The reference's logits. -/
theorem log_real (hx : ∀ d, x (ix2 a d) = ((p d : ℝ) : EReal)) (hC : ∀ l k d, cb (ix3 l k d) = ((C l k d : ℝ) : EReal)) (l : ℕ) (k : Fin 8192) :
    logR cb x l (ix2 a k) = ((-dist (rho C p l) (C ⟨l % 8, Nat.mod_lt _ (by decide)⟩) k : ℝ) : EReal) := by
  change -(distOf (resR cb x l) (cbkAt l cb) (ix2 a k) : EReal) = _
  rw [dist_real (res_real hx hC l) (cbk_real hC l), ← EReal.coe_neg]

end Cert.ReferenceIdeal.Hand
end
-- ==== Proof.KernelLevels.lean ====
module

public import proofs.«01_k».proof.Proof.Final
public import proofs.«01_k».proof.Proof.ValKernel
public import proofs.«01_k».proof.Proof.Levels

@[expose] public section

noncomputable section

/-! # The kernel's results by the levels -/

namespace Cert.KernelIdeal.Hand

open Cert.KernelIdeal Cert.KernelIdeal.Gen
open Idealize.ShloMosaic Cert.Nearest Idealize.ShloMosaic.TcCoe

variable (m : (ℓ : Loc nD τ sig) → Buf (Elt Ideal) ℓ)

/-- The bias as the region finds it: one row. -/
theorem V_main_v0 (c : Dev nD) (d : Fin 64) :
    (V m c main_v0 : S1x64.Idx → Ideal FTy.f32) (ix2 0 d) = (m ((c.tc : Thread nD τ).loc main_arg2) : S64.Idx → Ideal FTy.f32) (ix1 d) := by
  have h : (V m c main_v0 : S1x64.Idx → Ideal FTy.f32) = shapeCast S1x64 (m ((c.tc : Thread nD τ).loc main_arg2) : Vec Ideal S64 .f32) shapeCasts_S64_S1x64 := rfl
  rw [h]
  pointwise

/-- The number of the row that is row a of block i. -/
abbrev rowAt (i : Fin 32) (a : Fin 128) : Fin 4096 := ⟨128 * i.val + a.val, by have := i.isLt; have := a.isLt; omega⟩

variable {m} {c : Dev nD} {X : Fin 4096 → Fin 64 → ℝ} {W : Fin 64 → Fin 64 → ℝ} {B : Fin 64 → ℝ} {C : Fin 8 → Fin 8192 → Fin 64 → ℝ}

/-- The arguments of a core are the real numbers X, W, B and C. -/
structure Real4 (m : (ℓ : Loc nD τ sig) → Buf (Elt Ideal) ℓ) (c : Dev nD) (X : Fin 4096 → Fin 64 → ℝ) (W : Fin 64 → Fin 64 → ℝ)
    (B : Fin 64 → ℝ) (C : Fin 8 → Fin 8192 → Fin 64 → ℝ) : Prop where
  hX : ∀ a d, (m ((c.tc : Thread nD τ).loc main_arg0) : S4096x64.Idx → Ideal FTy.f32) (ix2 a d) = ((X a d : ℝ) : EReal)
  hW : ∀ a d, (m ((c.tc : Thread nD τ).loc main_arg1) : S64x64.Idx → Ideal FTy.f32) (ix2 a d) = ((W a d : ℝ) : EReal)
  hB : ∀ d, (m ((c.tc : Thread nD τ).loc main_arg2) : S64.Idx → Ideal FTy.f32) (ix1 d) = ((B d : ℝ) : EReal)
  hC : ∀ l k d, (m ((c.tc : Thread nD τ).loc main_arg3) : S8x8192x64.Idx → Ideal FTy.f32) (ix3 l k d) = ((C l k d : ℝ) : EReal)

/-- A projected row. -/
def projR (X : Fin 4096 → Fin 64 → ℝ) (W : Fin 64 → Fin 64 → ℝ) (B : Fin 64 → ℝ) (a : Fin 4096) (d : Fin 64) : ℝ := ∑ e, X a e * W e d + B d

section
variable (h : Real4 m c X W B C) (i : Fin 32) (a : Fin 128)
include h

/-- The block's features are the rows' real numbers. -/
theorem feat_real (e : Fin 64) : featB m c (pt i.val) (ix2 a e) = ((X (rowAt i a) e : ℝ) : EReal) := by
  have hi := i.isLt
  rw [featB_apply, V_main_arg0]
  refine Eq.trans ?_ (h.hX (rowAt i a) e)
  refine congrArg (m ((c.tc : Thread nD τ).loc main_arg0) : S4096x64.Idx → Ideal FTy.f32) ?_
  refine congrArg₂ ix2 (Fin.ext ?_) rfl
  show 128 * ((pt i.val).val % 32) + a.val = 128 * i.val + a.val
  rw [pt_val _ (by omega), Nat.mod_eq_of_lt hi]

/-- The block of codebooks at a level's first point is that level's codebook. -/
theorem cb_real (l : ℕ) (hl : l < 8) (k : Fin 8192) (d : Fin 64) :
    cbB m c (pt (32 * l)) (ix3 0 k d) = ((C ⟨l % 8, Nat.mod_lt _ (by decide)⟩ k d : ℝ) : EReal) := by
  rw [cbB_apply, V_main_arg3]
  refine Eq.trans ?_ (h.hC ⟨l % 8, Nat.mod_lt _ (by decide)⟩ k d)
  refine congrArg (m ((c.tc : Thread nD τ).loc main_arg3) : S8x8192x64.Idx → Ideal FTy.f32) ?_
  have e : (pt (32 * l)).val / 32 = l % 8 := by rw [pt_val _ (by omega)]; omega
  funext z
  apply Fin.ext
  match z with
  | ⟨0, _⟩ => exact e
  | ⟨1, _⟩ => rfl
  | ⟨2, _⟩ => rfl

/-- A row of the projection, in the kernel's text. -/
theorem proj_real (d : Fin 64) :
    ∑ e, featB m c (pt i.val) (ix2 a e) * wB m c (pt i.val) (ix2 e d) + bB m c (pt i.val) (ix2 0 d) = ((projR X W B (rowAt i a) d : ℝ) : EReal) := by
  have hw : ∀ e, wB m c (pt i.val) (ix2 e d) = ((W e d : ℝ) : EReal) := fun e => by rw [wB_apply, V_main_arg1]; exact h.hW e d
  have hb : bB m c (pt i.val) (ix2 0 d) = ((B d : ℝ) : EReal) := by rw [bB_apply]; exact (V_main_v0 m c d).trans (h.hB d)
  simp only [feat_real h, hw, hb, ← EReal.coe_mul, ← coe_sum, ← EReal.coe_add]
  rfl

/-- The kernel's projected rows. -/
theorem XB_real (d : Fin 64) : XB m c i.val (ix2 a d) = ((projR X W B (rowAt i a) d : ℝ) : EReal) := by
  unfold XB
  rw [pay7_apply, proj_real h]

/-- The kernel's residuals. -/
theorem RB_real : ∀ (l : ℕ), l ≤ 8 → ∀ d : Fin 64, RB m c l i.val (ix2 a d) = ((rho C (projR X W B (rowAt i a)) l d : ℝ) : EReal)
  | 0, _, d => by
    unfold RB
    rw [pay8_apply, proj_real h]
    rfl
  | l + 1, hl, d => by
    rw [RB_succ, next_real (RB_real l (by omega)) (cb_real h l (by omega))]
    rfl

/-- The kernel's logits. -/
theorem LB_real (l : Fin 8) (k : Fin 8192) :
    LB m c l.val i.val (ix2 a k) = ((-dist (rho C (projR X W B (rowAt i a)) l.val) (C ⟨l.val % 8, Nat.mod_lt _ (by decide)⟩) k : ℝ) : EReal) := by
  unfold LB
  exact pay9_real (RB_real h i a l.val (by omega)) (cb_real h l.val l.isLt) k

/-- The kernel's sums. -/
theorem QB_real (d : Fin 64) :
    QB m c i.val (ix2 a d) = ((projR X W B (rowAt i a) d - rho C (projR X W B (rowAt i a)) 8 d : ℝ) : EReal) := by
  unfold QB
  rw [pay2_apply, XB_real h, RB_real h i a 8 (le_refl _), ← EReal.coe_sub]

end

end Cert.KernelIdeal.Hand
end
-- ==== Proof.Equal.lean ====
module

public import proofs.«01_k».proof.Proof.KernelLevels

@[expose] public section

noncomputable section

/-! # The kernel ends with the reference's results -/

namespace Cert.KernelIdeal.Hand

open Cert.KernelIdeal Cert.KernelIdeal.Gen
open Idealize.ShloMosaic Cert.Nearest Idealize.ShloMosaic.TcCoe Idealize.SL Idealize.SL.Sem
open Cert.ReferenceIdeal.Hand (projOf resR sumR logR catOf)

variable {m : (ℓ : Loc nD τ sig) → Buf (Elt Ideal) ℓ} {c : Dev nD} {X : Fin 4096 → Fin 64 → ℝ} {W : Fin 64 → Fin 64 → ℝ} {B : Fin 64 → ℝ}
  {C : Fin 8 → Fin 8192 → Fin 64 → ℝ}

/-- The reference's projection of a core's arguments. -/
def refProj (m : (ℓ : Loc nD τ sig) → Buf (Elt Ideal) ℓ) (c : Dev nD) : Vec Ideal S4096x64 .f32 :=
  projOf (F := Ideal) (m ((c.tc : Thread nD τ).loc main_arg0)) (m ((c.tc : Thread nD τ).loc main_arg1)) (m ((c.tc : Thread nD τ).loc main_arg2))

/-- The reference's logits of a core's arguments. -/
def refLog (m : (ℓ : Loc nD τ sig) → Buf (Elt Ideal) ℓ) (c : Dev nD) : Vec Ideal S4096x65536 .f32 :=
  catOf (F := Ideal) (logR (m ((c.tc : Thread nD τ).loc main_arg3)) (refProj m c))

/-- The reference's sum of codewords of a core's arguments. -/
def refSum (m : (ℓ : Loc nD τ sig) → Buf (Elt Ideal) ℓ) (c : Dev nD) : Vec Ideal S4096x64 .f32 :=
  sumR (F := Ideal) (m ((c.tc : Thread nD τ).loc main_arg3)) (refProj m c) 8

/-- The reference's projection, of real numbers. -/
theorem refProj_real (h : Real4 m c X W B C) (a : Fin 4096) (d : Fin 64) : refProj m c (ix2 a d) = ((projR X W B a d : ℝ) : EReal) := by
  unfold refProj
  rw [Cert.ReferenceIdeal.Hand.proj_apply]
  simp only [h.hX, h.hW, h.hB, ← EReal.coe_mul, ← coe_sum, ← EReal.coe_add]
  rfl

/-- The kernel's logits end as the reference's. -/
theorem logits_eq (h : Real4 m c X W B C) {r : PUnit × MemSt nD τ sig (Elt Ideal)}
    (hr : Pipeline.RDat.FramePost (cfgs 0) (fun c => rdat m c) (V m) r) :
    (r.2.mem ((c.tc : Thread nD τ).loc main_v1_0) : S4096x65536.Idx → Ideal FTy.f32) = refLog m c := by
  funext z
  have hz0 : (z 0).val < 4096 := (z 0).isLt
  have hz1 : (z 1).val < 65536 := (z 1).isLt
  let i : Fin 32 := ⟨(z 0).val / 128, by omega⟩
  let a : Fin 128 := ⟨(z 0).val % 128, by omega⟩
  let l : Fin 8 := ⟨(z 1).val / 8192, by omega⟩
  let k : Fin 8192 := ⟨(z 1).val % 8192, by omega⟩
  let t : Fin cfg0.N := pt (32 * l.val + i.val)
  have hl := l.isLt
  have hi := i.isLt
  have ht : t.val = 32 * l.val + i.val := pt_val _ (by omega)
  have ht0 : t.val % 32 = i.val := by omega
  have ht1 : t.val / 32 = l.val := by omega
  have e : ((cfg0.win 4).blk t).view.emb (ix2 a k : S128x8192.Idx) = z := by
    funext x
    apply Fin.ext
    refine (emb4 t (ix2 a k) x).trans ?_
    match x with
    | ⟨0, _⟩ =>
      show 128 * (t.val % 32) + (z 0).val % 128 = (z 0).val
      rw [ht0]; show 128 * ((z 0).val / 128) + (z 0).val % 128 = (z 0).val; omega
    | ⟨1, _⟩ =>
      show 8192 * (t.val / 32) + (z 1).val % 8192 = (z 1).val
      rw [ht1]; show 8192 * ((z 1).val / 8192) + (z 1).val % 8192 = (z 1).val; omega
  have e' : z = ix2 (rowAt i a) (⟨8192 * l.val + k.val, by have := l.isLt; have := k.isLt; omega⟩ : Fin 65536) := by
    funext x
    apply Fin.ext
    match x with
    | ⟨0, _⟩ => show (z 0).val = 128 * ((z 0).val / 128) + (z 0).val % 128; omega
    | ⟨1, _⟩ => show (z 1).val = 8192 * ((z 1).val / 8192) + (z 1).val % 8192; omega
  have hk := final_logits m hr c t (ix2 a k)
  rw [e, ht0, ht1, LB_real h i a l k] at hk
  refine hk.trans (Eq.symm ?_)
  unfold refLog
  rw [e', Cert.ReferenceIdeal.Hand.cat_apply]
  exact Cert.ReferenceIdeal.Hand.log_real (refProj_real h _) h.hC l.val k

/-- The kernel's sum of codewords ends as the reference's. -/
theorem qsum_eq (h : Real4 m c X W B C) {r : PUnit × MemSt nD τ sig (Elt Ideal)}
    (hr : Pipeline.RDat.FramePost (cfgs 0) (fun c => rdat m c) (V m) r) :
    (r.2.mem ((c.tc : Thread nD τ).loc main_v1_1) : S4096x64.Idx → Ideal FTy.f32) = refSum m c := by
  funext z
  have hz0 : (z 0).val < 4096 := (z 0).isLt
  have hz1 : (z 1).val < 64 := (z 1).isLt
  let i : Fin 32 := ⟨(z 0).val / 128, by omega⟩
  let a : Fin 128 := ⟨(z 0).val % 128, by omega⟩
  let d : Fin 64 := ⟨(z 1).val, hz1⟩
  let t : Fin cfg0.N := pt (224 + i.val)
  have hi := i.isLt
  have ht : t.val = 224 + i.val := pt_val _ (by omega)
  have ht0 : t.val % 32 = i.val := by omega
  have e : ((cfg0.win 5).blk t).view.emb (ix2 a d : S128x64.Idx) = z := by
    funext x
    apply Fin.ext
    refine (emb5 t (ix2 a d) x).trans ?_
    match x with
    | ⟨0, _⟩ =>
      show 128 * (t.val % 32) + (z 0).val % 128 = (z 0).val
      rw [ht0]; show 128 * ((z 0).val / 128) + (z 0).val % 128 = (z 0).val; omega
    | ⟨1, _⟩ => rfl
  have e' : z = ix2 (rowAt i a) d := by
    funext x
    apply Fin.ext
    match x with
    | ⟨0, _⟩ => show (z 0).val = 128 * ((z 0).val / 128) + (z 0).val % 128; omega
    | ⟨1, _⟩ => rfl
  have hk := final_q m hr c t (by omega) (ix2 a d)
  rw [e, ht0, QB_real h i a d] at hk
  refine hk.trans (Eq.symm ?_)
  unfold refSum
  rw [e']
  exact Cert.ReferenceIdeal.Hand.sum_real (refProj_real h _) h.hC 8 d

end Cert.KernelIdeal.Hand
end
-- ==== Proof.lean ====
module

public import proofs.«01_k».proof.Defs
public import proofs.«01_k».proof.Proof.BitsFrame
public import proofs.«01_k».proof.Proof.Frame
public import proofs.«01_k».proof.Proof.RefRun
public import proofs.«01_k».proof.Proof.Finite
public import proofs.«01_k».proof.Proof.Equal

@[expose] public section

noncomputable section

namespace Cert.Proof

open Idealize.ShloMosaic Idealize.SL.Sem

/-- The reference runs, its arguments end unchanged, every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run _ _ _).mono (fun _ h => ⟨fun c => (h.1 c).2.2, h.2⟩) (Cert.ReferenceIdeal.Hand.run_ref (F := Ideal) m g)

/-- Under the precondition the arguments of every core are real numbers. -/
theorem real4 (m : (ℓ : Loc Cert.KernelIdeal.nD Cert.KernelIdeal.τ Cert.KernelIdeal.sig) → Buf (Elt Ideal) ℓ)
    (h : Pre_KernelIdeal_finite_arguments m) (c : Dev Cert.KernelIdeal.nD) : ∃ X W B C, Cert.KernelIdeal.Hand.Real4 m c X W B C := by
  obtain ⟨h0, h1, h2, h3⟩ := Cert.Finite.finite (h c)
  exact ⟨_, _, _, _, ⟨fun a d => h0 (ix2 a d), fun a d => h1 (ix2 a d), fun d => h2 (ix1 d), fun l k d => h3 (ix3 l k d)⟩⟩

/-- From equal finite arguments the kernel and the reference end with equal logits and equal sums of codewords. -/
theorem algebraic : algebraic_KernelIdeal_ReferenceIdeal_pre_finite_arguments := by
  intro m g m' g' hpre hargs
  refine ⟨fun c => Cert.KernelIdeal.Hand.refLog m c, fun c => Cert.KernelIdeal.Hand.refSum m c, ?_, ?_⟩
  · refine (θ_run _ _ _).mono (fun r h c => ?_) (Cert.KernelIdeal.Hand.run_main (F := Ideal) m g)
    obtain ⟨X, W, B, C, hR⟩ := real4 m hpre c
    exact ⟨Cert.KernelIdeal.Hand.logits_eq hR h.1, Cert.KernelIdeal.Hand.qsum_eq hR h.1, Cert.KernelIdeal.Hand.args_kept m h.1 c⟩
  · refine (θ_run _ _ _).mono (fun r h c => ?_) (Cert.ReferenceIdeal.Hand.run_ref (F := Ideal) m' g')
    obtain ⟨h0, h1, h2, h3⟩ := hargs c
    obtain ⟨hl, hs, hk⟩ := h.1 c
    rw [h0, h1, h2, h3] at hl hs
    exact ⟨hl, hs, hk⟩

/-- The five claims. -/
theorem claim : Cert.Claim :=
  ⟨Cert.Kernel.Gen.facts, Cert.KernelIdeal.Gen.facts, Cert.ReferenceIdeal.Gen.facts, Cert.Pre_finite_arguments.Gen.facts,
    fun m g _ => Cert.Kernel.Hand.frame (F := Bits) m g,
    fun m g _ => Cert.KernelIdeal.Hand.frame (F := Ideal) m g,
    fun m g _ => Cert.KernelIdeal.Hand.frame (F := Ideal) m g,
    fun m g _ => reference_frame m g,
    fun m g _ => reference_frame m g,
    trivial,
    algebraic⟩

end Cert.Proof

end
